-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_on_in_range [hKernelIdeal : Cert.KernelIdeal.Facts] [hReferenceIdeal : Cert.ReferenceIdeal.Facts] [hOn_in_range : Cert.On_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![40, 1, 6, 512]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v8_0) i = v0 c i)
          ∧ (∀ i : (⟨4, ![40, 6, 512, 256]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v8_1) i = v1 c i)
          ∧ (∀ i : (⟨3, ![40, 6, 512]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 i = 1#1 → r.2.mem ((c.tc : Thread Cert.KernelIdeal.nD Cert.KernelIdeal.τ).loc Cert.KernelIdeal.main_v8_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![40, 1, 6, 512]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v1_0) i = v0 c i)
          ∧ (∀ i : (⟨4, ![40, 6, 512, 256]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v1_1) i = v1 c i)
          ∧ (∀ i : (⟨3, ![40, 6, 512]⟩ : Shape).Idx, (Cert.On_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 i = 1#1 → r.2.mem ((c.tc : Thread Cert.ReferenceIdeal.nD Cert.ReferenceIdeal.τ).loc Cert.ReferenceIdeal.main_v1_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_in_range : Cert.On_in_range.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_in_range (hKernelIdeal := hKernelIdeal) (hReferenceIdeal := hReferenceIdeal) (hOn_in_range := hOn_in_range)
-- ==== On_in_range.lean ====
abbrev S40x1x6x256 : Shape := ⟨4, ![40, 1, 6, 256]⟩
abbrev S40x1x6x512 : Shape := ⟨4, ![40, 1, 6, 512]⟩
abbrev S40x1x6 : Shape := ⟨3, ![40, 1, 6]⟩
abbrev S40x6x512x256 : Shape := ⟨4, ![40, 6, 512, 256]⟩
abbrev S40x6x512 : Shape := ⟨3, ![40, 6, 512]⟩
abbrev S40x6x256 : Shape := ⟨3, ![40, 6, 256]⟩
abbrev S_ : Shape := ⟨0, ![]⟩
abbrev S40x6 : Shape := ⟨2, ![40, 6]⟩
abbrev S40x6x1 : Shape := ⟨3, ![40, 6, 1]⟩
abbrev S40x6x1x256 : Shape := ⟨4, ![40, 6, 1, 256]⟩
abbrev S40x6x1x1 : Shape := ⟨4, ![40, 6, 1, 1]⟩
abbrev S40x6x512x1 : Shape := ⟨4, ![40, 6, 512, 1]⟩

class Facts : Prop where
  shapeCasts_S40x1x6x256_S40x6x256 : S40x1x6x256.ShapeCasts S40x6x256
  bitsLt_bf16_f32 : FTy.bits .bf16 < FTy.bits .f32
  reducesTo_S40x6x256_S40x6_d2 : S40x6x256.ReducesTo [2] S40x6
  h_S_ : 0 < S_.numel
  bcast_S40x6_S40x6x1_0_1 : S40x6.BroadcastsInDim S40x6x1 (![0, 1] : Fin 2 → Fin S40x6x1.rank)
  bcast_S_S40x6x1 : S_.BroadcastsInDim S40x6x1 (![] : Fin 0 → Fin S40x6x1.rank)
  bcast_S40x6x1_S40x6x256_0_1_2 : S40x6x1.BroadcastsInDim S40x6x256 (![0, 1, 2] : Fin 3 → Fin S40x6x256.rank)
  shapeCasts_S40x1x6_S40x6 : S40x1x6.ShapeCasts S40x6
  bcast_S40x6x256_S40x6x1x256_0_1_3 : S40x6x256.BroadcastsInDim S40x6x1x256 (![0, 1, 3] : Fin 3 → Fin S40x6x1x256.rank)
  bcast_S40x6x1x256_S40x6x512x256_0_1_2_3 : S40x6x1x256.BroadcastsInDim S40x6x512x256 (![0, 1, 2, 3] : Fin 4 → Fin S40x6x512x256.rank)
  reducesTo_S40x6x512x256_S40x6x512_d3 : S40x6x512x256.ReducesTo [3] S40x6x512
  shapeCasts_S40x1x6x512_S40x6x512 : S40x1x6x512.ShapeCasts S40x6x512
  bcast_S40x6x1_S40x6x512_0_1_2 : S40x6x1.BroadcastsInDim S40x6x512 (![0, 1, 2] : Fin 3 → Fin S40x6x512.rank)
  bcast_S_S40x6x512 : S_.BroadcastsInDim S40x6x512 (![] : Fin 0 → Fin S40x6x512.rank)
  bcast_S40x6x1_S40x6x1x1_0_1_2 : S40x6x1.BroadcastsInDim S40x6x1x1 (![0, 1, 2] : Fin 3 → Fin S40x6x1x1.rank)
  bcast_S40x6x512_S40x6x512x1_0_1_2 : S40x6x512.BroadcastsInDim S40x6x512x1 (![0, 1, 2] : Fin 3 → Fin S40x6x512x1.rank)
  bcast_S40x6x512x1_S40x6x512x256_0_1_2_3 : S40x6x512x1.BroadcastsInDim S40x6x512x256 (![0, 1, 2, 3] : Fin 4 → Fin S40x6x512x256.rank)
  bcast_S40x6x1x1_S40x6x512x256_0_1_2_3 : S40x6x1x1.BroadcastsInDim S40x6x512x256 (![0, 1, 2, 3] : Fin 4 → Fin S40x6x512x256.rank)
  bcast_S_S40x6x512x256 : S_.BroadcastsInDim S40x6x512x256 (![] : Fin 0 → Fin S40x6x512x256.rank)
  bcast_S_S40x1x6x512 : S_.BroadcastsInDim S40x1x6x512 (![] : Fin 0 → Fin S40x1x6x512.rank)

variable [Facts]

def fn_part3 {F : FTy → Type} [FloatOps F] (main_v31 : FVec F S40x6x512 .f32) (main_v40 : IVec S40x6x512 1) (main_v58 : IVec S40x6x512 1) (main_v61 : IVec S40x6x512x256 1) (main_c : IVec S_ 1) : IVec S40x1x6x512 1 × IVec S40x6x512x256 1 × IVec S40x6x512 1 :=
  let main_v62 : IVec S40x6x512 1 := (fun x v => Host.reduce IntOp.andi x v reducesTo_S40x6x512x256_S40x6x512_d3 h_S_) main_v61 main_c
  let main_v63 : IVec S40x6x512 1 := andi main_v62 main_v40
  let main_cst_8 : FVec F S_ .f32 := constant S_ .f32 0x7F800000#32
  let main_v64 : FVec F S40x6x512 .f32 := broadcastInDim S40x6x512 ![] bcast_S_S40x6x512 main_cst_8
  let main_v65 : IVec S40x6x512 1 := cmpf .olt main_v31 main_v64
  let main_v66 : IVec S40x6x512 1 := andi main_v63 main_v65
  let main_v67 : IVec S40x6x512 1 := andi main_v66 main_v58
  let main_c_9 : IVec S_ 1 := constantI S_ 1 1#1
  let main_v68 : IVec S40x1x6x512 1 := broadcastInDim S40x1x6x512 ![] bcast_S_S40x1x6x512 main_c_9
  let main_v69 : IVec S40x6x512x1 1 := broadcastInDim S40x6x512x1 ![0, 1, 2] bcast_S40x6x512_S40x6x512x1_0_1_2 main_v67
  let main_v70 : IVec S40x6x512x256 1 := broadcastInDim S40x6x512x256 ![0, 1, 2, 3] bcast_S40x6x512x1_S40x6x512x256_0_1_2_3 main_v69
  (main_v68, main_v70, main_v67)

def fn_part2 {F : FTy → Type} [FloatOps F] (main_arg5 : FVec F S40x6x512x256 .f32) (main_v11 : FVec F S40x6x256 .f32) (main_v28 : FVec F S40x6x512 .f32) (main_v31 : FVec F S40x6x512 .f32) (main_v40 : IVec S40x6x512 1) (main_v41 : FVec F S40x6x1x1 .f32) (main_v42 : FVec F S40x6x512x1 .f32) : IVec S40x1x6x512 1 × IVec S40x6x512x256 1 × IVec S40x6x512 1 :=
  let main_v43 : FVec F S40x6x512x256 .f32 := broadcastInDim S40x6x512x256 ![0, 1, 2, 3] bcast_S40x6x512x1_S40x6x512x256_0_1_2_3 main_v42
  let main_v44 : FVec F S40x6x512x256 .f32 := mulf main_arg5 main_v43
  let main_v45 : FVec F S40x6x512x256 .f32 := broadcastInDim S40x6x512x256 ![0, 1, 2, 3] bcast_S40x6x1x1_S40x6x512x256_0_1_2_3 main_v41
  let main_v46 : FVec F S40x6x512x256 .f32 := mulf main_v45 main_v44
  let main_v47 : FVec F S40x6x512x1 .f32 := broadcastInDim S40x6x512x1 ![0, 1, 2] bcast_S40x6x512_S40x6x512x1_0_1_2 main_v28
  let main_v48 : FVec F S40x6x1x256 .f32 := broadcastInDim S40x6x1x256 ![0, 1, 3] bcast_S40x6x256_S40x6x1x256_0_1_3 main_v11
  let main_v49 : FVec F S40x6x512x256 .f32 := broadcastInDim S40x6x512x256 ![0, 1, 2, 3] bcast_S40x6x512x1_S40x6x512x256_0_1_2_3 main_v47
  let main_v50 : FVec F S40x6x512x256 .f32 := broadcastInDim S40x6x512x256 ![0, 1, 2, 3] bcast_S40x6x1x256_S40x6x512x256_0_1_2_3 main_v48
  let main_v51 : FVec F S40x6x512x256 .f32 := mulf main_v49 main_v50
  let main_v52 : FVec F S40x6x512x256 .f32 := addf main_v46 main_v51
  let main_v53 : FVec F S40x6x512x256 .f32 := Host.absf main_v52
  let main_cst_4 : FVec F S_ .f32 := constant S_ .f32 0xFF800000#32
  let main_v54 : FVec F S40x6x512 .f32 := (fun x v => Host.reduce FloatOps.maximumf x v reducesTo_S40x6x512x256_S40x6x512_d3 h_S_) main_v53 main_cst_4
  let main_cst_5 : FVec F S_ .f32 := constant S_ .f32 0x3B124925#32
  let main_v55 : FVec F S40x6x512 .f32 := broadcastInDim S40x6x512 ![] bcast_S_S40x6x512 main_cst_5
  let main_v56 : FVec F S40x6x512 .f32 := mulf main_v54 main_v55
  let main_cst_6 : FVec F S_ .f32 := constant S_ .f32 0x7E800000#32
  let main_v57 : FVec F S40x6x512 .f32 := broadcastInDim S40x6x512 ![] bcast_S_S40x6x512 main_cst_6
  let main_v58 : IVec S40x6x512 1 := cmpf .olt main_v56 main_v57
  let main_v59 : FVec F S40x6x512x256 .f32 := Host.absf main_arg5
  let main_cst_7 : FVec F S_ .f32 := constant S_ .f32 0x43E00000#32
  let main_v60 : FVec F S40x6x512x256 .f32 := broadcastInDim S40x6x512x256 ![] bcast_S_S40x6x512x256 main_cst_7
  let main_v61 : IVec S40x6x512x256 1 := cmpf .ole main_v59 main_v60
  let main_c : IVec S_ 1 := constantI S_ 1 1#1
  fn_part3 (F := F) main_v31 main_v40 main_v58 main_v61 main_c

def fn_part1 {F : FTy → Type} [FloatOps F] (main_arg2 : FVec F S40x1x6x512 .bf16) (main_arg5 : FVec F S40x6x512x256 .f32) (main_arg6 : FVec F S40x6x512 .f32) (main_v11 : FVec F S40x6x256 .f32) (main_v14 : FVec F S40x6x1 .f32) (main_v19 : FVec F S40x6x512 .f32) (main_v20 : FVec F S40x6 .f32) : IVec S40x1x6x512 1 × IVec S40x6x512x256 1 × IVec S40x6x512 1 :=
  let main_v21 : FVec F S40x6x1 .f32 := broadcastInDim S40x6x1 ![0, 1] bcast_S40x6_S40x6x1_0_1 main_v20
  let main_v22 : FVec F S40x6x512 .bf16 := shapeCast S40x6x512 main_arg2 shapeCasts_S40x1x6x512_S40x6x512
  let main_v23 : FVec F S40x6x512 .f32 := (extf .f32 · bitsLt_bf16_f32) main_v22
  let main_v24 : FVec F S40x6x512 .f32 := broadcastInDim S40x6x512 ![0, 1, 2] bcast_S40x6x1_S40x6x512_0_1_2 main_v14
  let main_v25 : FVec F S40x6x512 .f32 := mulf main_v24 main_v19
  let main_v26 : FVec F S40x6x512 .f32 := subf main_v23 main_v25
  let main_v27 : FVec F S40x6x512 .f32 := broadcastInDim S40x6x512 ![0, 1, 2] bcast_S40x6x1_S40x6x512_0_1_2 main_v21
  let main_v28 : FVec F S40x6x512 .f32 := mulf main_v27 main_v26
  let main_v29 : FVec F S40x6x512 .f32 := broadcastInDim S40x6x512 ![0, 1, 2] bcast_S40x6x1_S40x6x512_0_1_2 main_v14
  let main_v30 : FVec F S40x6x512 .f32 := mulf main_v29 main_arg6
  let main_v31 : FVec F S40x6x512 .f32 := Host.absf main_v30
  let main_v32 : FVec F S40x6x512 .f32 := Host.absf main_v28
  let main_v33 : FVec F S40x6x256 .f32 := Host.absf main_v11
  let main_cst_2 : FVec F S_ .f32 := constant S_ .f32 0xFF800000#32
  let main_v34 : FVec F S40x6 .f32 := (fun x v => Host.reduce FloatOps.maximumf x v reducesTo_S40x6x256_S40x6_d2 h_S_) main_v33 main_cst_2
  let main_v35 : FVec F S40x6x1 .f32 := broadcastInDim S40x6x1 ![0, 1] bcast_S40x6_S40x6x1_0_1 main_v34
  let main_v36 : FVec F S40x6x512 .f32 := broadcastInDim S40x6x512 ![0, 1, 2] bcast_S40x6x1_S40x6x512_0_1_2 main_v35
  let main_v37 : FVec F S40x6x512 .f32 := mulf main_v32 main_v36
  let main_cst_3 : FVec F S_ .f32 := constant S_ .f32 0x53800000#32
  let main_v38 : FVec F S40x6x512 .f32 := broadcastInDim S40x6x512 ![] bcast_S_S40x6x512 main_cst_3
  let main_v39 : FVec F S40x6x512 .f32 := mulf main_v38 main_v31
  let main_v40 : IVec S40x6x512 1 := cmpf .ole main_v37 main_v39
  let main_v41 : FVec F S40x6x1x1 .f32 := broadcastInDim S40x6x1x1 ![0, 1, 2] bcast_S40x6x1_S40x6x1x1_0_1_2 main_v14
  let main_v42 : FVec F S40x6x512x1 .f32 := broadcastInDim S40x6x512x1 ![0, 1, 2] bcast_S40x6x512_S40x6x512x1_0_1_2 main_arg6
  fn_part2 (F := F) main_arg5 main_v11 main_v28 main_v31 main_v40 main_v41 main_v42

def fn {F : FTy → Type} [FloatOps F] (main_arg0 : FVec F S40x1x6x256 .bf16) (main_arg1 : FVec F S40x1x6x256 .bf16) (main_arg2 : FVec F S40x1x6x512 .bf16) (main_arg3 : FVec F S40x1x6 .f32) (main_arg4 : FVec F S40x1x6 .f32) (main_arg5 : FVec F S40x6x512x256 .f32) (main_arg6 : FVec F S40x6x512 .f32) : IVec S40x1x6x512 1 × IVec S40x6x512x256 1 × IVec S40x6x512 1 :=
  let main_v0 : FVec F S40x6x256 .bf16 := shapeCast S40x6x256 main_arg1 shapeCasts_S40x1x6x256_S40x6x256
  let main_v1 : FVec F S40x6x256 .f32 := (extf .f32 · bitsLt_bf16_f32) main_v0
  let main_v2 : FVec F S40x6x256 .f32 := mulf main_v1 main_v1
  let main_cst : FVec F S_ .f32 := constant S_ .f32 0x00000000#32
  let main_v3 : FVec F S40x6 .f32 := (fun x v => Host.reduceAdd x v reducesTo_S40x6x256_S40x6_d2 h_S_) main_v2 main_cst
  let main_v4 : FVec F S40x6x1 .f32 := broadcastInDim S40x6x1 ![0, 1] bcast_S40x6_S40x6x1_0_1 main_v3
  let main_cst_0 : FVec F S_ .f32 := constant S_ .f32 0x358637BD#32
  let main_v5 : FVec F S40x6x1 .f32 := broadcastInDim S40x6x1 ![] bcast_S_S40x6x1 main_cst_0
  let main_v6 : FVec F S40x6x1 .f32 := addf main_v4 main_v5
  let main_v7 : FVec F S40x6x1 .f32 := Host.rsqrt main_v6
  let main_v8 : FVec F S40x6x256 .f32 := broadcastInDim S40x6x256 ![0, 1, 2] bcast_S40x6x1_S40x6x256_0_1_2 main_v7
  let main_v9 : FVec F S40x6x256 .f32 := mulf main_v1 main_v8
  let main_v10 : FVec F S40x6x256 .bf16 := (truncf .bf16 · bitsLt_bf16_f32) main_v9
  let main_v11 : FVec F S40x6x256 .f32 := (extf .f32 · bitsLt_bf16_f32) main_v10
  let main_v12 : FVec F S40x6 .f32 := shapeCast S40x6 main_arg3 shapeCasts_S40x1x6_S40x6
  let main_v13 : FVec F S40x6 .f32 := Host.exp main_v12
  let main_v14 : FVec F S40x6x1 .f32 := broadcastInDim S40x6x1 ![0, 1] bcast_S40x6_S40x6x1_0_1 main_v13
  let main_v15 : FVec F S40x6x1x256 .f32 := broadcastInDim S40x6x1x256 ![0, 1, 3] bcast_S40x6x256_S40x6x1x256_0_1_3 main_v11
  let main_v16 : FVec F S40x6x512x256 .f32 := broadcastInDim S40x6x512x256 ![0, 1, 2, 3] bcast_S40x6x1x256_S40x6x512x256_0_1_2_3 main_v15
  let main_v17 : FVec F S40x6x512x256 .f32 := mulf main_v16 main_arg5
  let main_cst_1 : FVec F S_ .f32 := constant S_ .f32 0x00000000#32
  let main_v18 : FVec F S40x6x512 .f32 := (fun x v => Host.reduceAdd x v reducesTo_S40x6x512x256_S40x6x512_d3 h_S_) main_v17 main_cst_1
  let main_v19 : FVec F S40x6x512 .f32 := mulf main_v18 main_arg6
  let main_v20 : FVec F S40x6 .f32 := shapeCast S40x6 main_arg4 shapeCasts_S40x1x6_S40x6
  fn_part1 (F := F) main_arg2 main_arg5 main_arg6 main_v11 main_v14 main_v19 main_v20
-- ==== Kernel.lean ====
abbrev S40x1x6x256 : Shape := ⟨4, ![40, 1, 6, 256]⟩
abbrev S40x1x6x512 : Shape := ⟨4, ![40, 1, 6, 512]⟩
abbrev S40x1x6 : Shape := ⟨3, ![40, 1, 6]⟩
abbrev S40x6x512x256 : Shape := ⟨4, ![40, 6, 512, 256]⟩
abbrev S40x6x512 : Shape := ⟨3, ![40, 6, 512]⟩
abbrev S256x256 : Shape := ⟨2, ![256, 256]⟩
abbrev S_ : Shape := ⟨0, ![]⟩
abbrev S1x1x6x256 : Shape := ⟨4, ![1, 1, 6, 256]⟩
abbrev S1x1x6x512 : Shape := ⟨4, ![1, 1, 6, 512]⟩
abbrev S1x1x6 : Shape := ⟨3, ![1, 1, 6]⟩
abbrev S1x6x512x256 : Shape := ⟨4, ![1, 6, 512, 256]⟩
abbrev S1x6x512 : Shape := ⟨3, ![1, 6, 512]⟩
abbrev S6x256x512 : Shape := ⟨3, ![6, 256, 512]⟩
abbrev S48x512 : Shape := ⟨2, ![48, 512]⟩
abbrev S8x512 : Shape := ⟨2, ![8, 512]⟩
abbrev S6x256 : Shape := ⟨2, ![6, 256]⟩
abbrev S6 : Shape := ⟨1, ![6]⟩
abbrev S6x1 : Shape := ⟨2, ![6, 1]⟩
abbrev S1x6 : Shape := ⟨2, ![1, 6]⟩
abbrev S6x6 : Shape := ⟨2, ![6, 6]⟩
abbrev S6x512 : Shape := ⟨2, ![6, 512]⟩
abbrev S1x1x512x256 : Shape := ⟨4, ![1, 1, 512, 256]⟩
abbrev S512x256 : Shape := ⟨2, ![512, 256]⟩
abbrev S256x6 : Shape := ⟨2, ![256, 6]⟩
abbrev S256x1 : Shape := ⟨2, ![256, 1]⟩
abbrev S256x128 : Shape := ⟨2, ![256, 128]⟩
abbrev S1x1x256x256 : Shape := ⟨4, ![1, 1, 256, 256]⟩
abbrev S1x128 : Shape := ⟨2, ![1, 128]⟩
abbrev S1x256x128 : Shape := ⟨3, ![1, 256, 128]⟩
abbrev S32x8x128 : Shape := ⟨3, ![32, 8, 128]⟩
abbrev S8x128 : Shape := ⟨2, ![8, 128]⟩
abbrev S6x8x512 : Shape := ⟨3, ![6, 8, 512]⟩
abbrev S128x256 : Shape := ⟨2, ![128, 256]⟩
abbrev S1x1x128x256 : Shape := ⟨4, ![1, 1, 128, 256]⟩

abbrev nBuf : Space → Nat
  | .hbm => 19
  | .vmem => 24
  | .smem => 0
  | _ => 0

abbrev bufTy : (tb : Table) → Fin (tcTables nBuf tb) → BufTy
  | .hbm, ⟨0, _⟩ => ⟨S40x1x6x256, .bf16⟩
  | .hbm, ⟨1, _⟩ => ⟨S40x1x6x256, .bf16⟩
  | .hbm, ⟨2, _⟩ => ⟨S40x1x6x512, .bf16⟩
  | .hbm, ⟨3, _⟩ => ⟨S40x1x6, .f32⟩
  | .hbm, ⟨4, _⟩ => ⟨S40x1x6, .f32⟩
  | .hbm, ⟨5, _⟩ => ⟨S40x6x512x256, .f32⟩
  | .hbm, ⟨6, _⟩ => ⟨S40x6x512, .f32⟩
  | .hbm, ⟨7, _⟩ => ⟨S256x256, .i32⟩
  | .hbm, ⟨8, _⟩ => ⟨S256x256, .i32⟩
  | .hbm, ⟨9, _⟩ => ⟨S_, .i32⟩
  | .hbm, ⟨10, _⟩ => ⟨S256x256, .i32⟩
  | .hbm, ⟨11, _⟩ => ⟨S256x256, .i32⟩
  | .hbm, ⟨12, _⟩ => ⟨S256x256, .i1⟩
  | .hbm, ⟨13, _⟩ => ⟨S256x256, .f32⟩
  | .hbm, ⟨14, _⟩ => ⟨S256x256, .fp8e4m3⟩
  | .hbm, ⟨15, _⟩ => ⟨S40x6x512x256, .fp8e4m3⟩
  | .hbm, ⟨16, _⟩ => ⟨S40x1x6x512, .bf16⟩
  | .hbm, ⟨17, _⟩ => ⟨S40x6x512x256, .fp8e4m3⟩
  | .hbm, ⟨18, _⟩ => ⟨S40x6x512, .f32⟩
  | .local _ .vmem, ⟨0, _⟩ => ⟨S1x1x6x256, .bf16⟩
  | .local _ .vmem, ⟨1, _⟩ => ⟨S1x1x6x256, .bf16⟩
  | .local _ .vmem, ⟨2, _⟩ => ⟨S1x1x6x256, .bf16⟩
  | .local _ .vmem, ⟨3, _⟩ => ⟨S1x1x6x256, .bf16⟩
  | .local _ .vmem, ⟨4, _⟩ => ⟨S1x1x6x512, .bf16⟩
  | .local _ .vmem, ⟨5, _⟩ => ⟨S1x1x6x512, .bf16⟩
  | .local _ .vmem, ⟨6, _⟩ => ⟨S1x1x6, .f32⟩
  | .local _ .vmem, ⟨7, _⟩ => ⟨S1x1x6, .f32⟩
  | .local _ .vmem, ⟨8, _⟩ => ⟨S1x1x6, .f32⟩
  | .local _ .vmem, ⟨9, _⟩ => ⟨S1x1x6, .f32⟩
  | .local _ .vmem, ⟨10, _⟩ => ⟨S1x6x512x256, .fp8e4m3⟩
  | .local _ .vmem, ⟨11, _⟩ => ⟨S1x6x512x256, .fp8e4m3⟩
  | .local _ .vmem, ⟨12, _⟩ => ⟨S1x6x512, .f32⟩
  | .local _ .vmem, ⟨13, _⟩ => ⟨S1x6x512, .f32⟩
  | .local _ .vmem, ⟨14, _⟩ => ⟨S256x256, .fp8e4m3⟩
  | .local _ .vmem, ⟨15, _⟩ => ⟨S1x1x6x512, .bf16⟩
  | .local _ .vmem, ⟨16, _⟩ => ⟨S1x1x6x512, .bf16⟩
  | .local _ .vmem, ⟨17, _⟩ => ⟨S1x6x512x256, .fp8e4m3⟩
  | .local _ .vmem, ⟨18, _⟩ => ⟨S1x6x512x256, .fp8e4m3⟩
  | .local _ .vmem, ⟨19, _⟩ => ⟨S1x6x512, .f32⟩
  | .local _ .vmem, ⟨20, _⟩ => ⟨S1x6x512, .f32⟩
  | .local _ .vmem, ⟨21, _⟩ => ⟨S6x256x512, .f32⟩
  | .local _ .vmem, ⟨22, _⟩ => ⟨S48x512, .f32⟩
  | .local _ .vmem, ⟨23, _⟩ => ⟨S8x512, .f32⟩
  | _, _ => ⟨S40x1x6x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![40], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x6x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x512x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x6x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x6x512x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x6x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S40x1x6x256 : Shape := ⟨4, ![40, 1, 6, 256]⟩
abbrev S40x1x6x512 : Shape := ⟨4, ![40, 1, 6, 512]⟩
abbrev S40x1x6 : Shape := ⟨3, ![40, 1, 6]⟩
abbrev S40x6x512x256 : Shape := ⟨4, ![40, 6, 512, 256]⟩
abbrev S40x6x512 : Shape := ⟨3, ![40, 6, 512]⟩
abbrev S40x6x256 : Shape := ⟨3, ![40, 6, 256]⟩
abbrev S40x6 : Shape := ⟨2, ![40, 6]⟩
abbrev S40x6x1 : Shape := ⟨3, ![40, 6, 1]⟩
abbrev S40x6x1x256 : Shape := ⟨4, ![40, 6, 1, 256]⟩
abbrev S40x6x512x1 : Shape := ⟨4, ![40, 6, 512, 1]⟩
abbrev S40x6x1x1 : Shape := ⟨4, ![40, 6, 1, 1]⟩

abbrev nBuf : Space → Nat
  | .hbm => 11
  | .vmem => 10
  | .smem => 0
  | _ => 0

abbrev bufTy : (tb : Table) → Fin (tcTables nBuf tb) → BufTy
  | .hbm, ⟨0, _⟩ => ⟨S40x1x6x256, .bf16⟩
  | .hbm, ⟨1, _⟩ => ⟨S40x1x6x256, .bf16⟩
  | .hbm, ⟨2, _⟩ => ⟨S40x1x6x512, .bf16⟩
  | .hbm, ⟨3, _⟩ => ⟨S40x1x6, .f32⟩
  | .hbm, ⟨4, _⟩ => ⟨S40x1x6, .f32⟩
  | .hbm, ⟨5, _⟩ => ⟨S40x6x512x256, .f32⟩
  | .hbm, ⟨6, _⟩ => ⟨S40x6x512, .f32⟩
  | .hbm, ⟨7, _⟩ => ⟨S40x6x512x256, .fp8e4m3⟩
  | .hbm, ⟨8, _⟩ => ⟨S40x1x6x512, .bf16⟩
  | .hbm, ⟨9, _⟩ => ⟨S40x6x512x256, .fp8e4m3⟩
  | .hbm, ⟨10, _⟩ => ⟨S40x6x512, .f32⟩
  | .local _ .vmem, ⟨0, _⟩ => ⟨S40x1x6x256, .bf16⟩
  | .local _ .vmem, ⟨1, _⟩ => ⟨S40x1x6x256, .bf16⟩
  | .local _ .vmem, ⟨2, _⟩ => ⟨S40x1x6x512, .bf16⟩
  | .local _ .vmem, ⟨3, _⟩ => ⟨S40x1x6, .f32⟩
  | .local _ .vmem, ⟨4, _⟩ => ⟨S40x1x6, .f32⟩
  | .local _ .vmem, ⟨5, _⟩ => ⟨S40x6x512x256, .fp8e4m3⟩
  | .local _ .vmem, ⟨6, _⟩ => ⟨S40x6x512, .f32⟩
  | .local _ .vmem, ⟨7, _⟩ => ⟨S40x1x6x512, .bf16⟩
  | .local _ .vmem, ⟨8, _⟩ => ⟨S40x6x512x256, .fp8e4m3⟩
  | .local _ .vmem, ⟨9, _⟩ => ⟨S40x6x512, .f32⟩
  | _, _ => ⟨S40x1x6x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S40x1x6x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x1x6x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x1x6x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x1x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x1x6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x6x512x256 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40x6x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40x1x6x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S40x6x512x256 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S40x6x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Rows.lean ====
/-
  ONE ROW OF THE STATE, over the extended reals (hand-written, untrusted). The decoding step treats every (batch, head, value
  channel) alone: a row of 256 codes `c` under one scale `s`, the head's key `k` and query `q`, its gate `g`, its rate `bt` and
  the channel's value `v`. This file names what the kernel and what the plain formulas compute of such a row. Nothing here is proved
  about them: `Exponent.lean` and `RowEq.lean` do that, `KernelRow.lean` and `RefRow.lean` show that the programs compute these.
-/
module

public import Idealize.ShloMosaic.Lib.Pointwise

@[expose] public section

noncomputable section

namespace Cert.Rows

open Idealize.ShloMosaic

/-- A row of 256 entries. -/
abbrev Row : Type := Fin 256 → EReal

/-- The float constants both programs print, by their words: the float nearest 10⁻⁶, guard of the norm. -/
abbrev eps : EReal := Ideal.ofBits .f32 0x358637BD#32
/-- The query's scale, 1/16. -/
abbrev sixteenth : EReal := Ideal.ofBits .f32 0x3D800000#32
/-- 2⁻⁴⁰. -/
abbrev tiny : EReal := Ideal.ofBits .f32 0x2B800000#32
/-- The float nearest 1/448. -/
abbrev inv448 : EReal := Ideal.ofBits .f32 0x3B124925#32
/-- 448. -/
abbrev top448 : EReal := Ideal.ofBits .f32 0x43E00000#32
/-- −448. -/
abbrev bot448 : EReal := Ideal.ofBits .f32 0xC3E00000#32
/-- 2⁻¹²⁶, the least normal float. -/
abbrev leastNormal : EReal := Ideal.ofBits .f32 0x00800000#32
/-- 2. -/
abbrev two : EReal := Ideal.ofBits .f32 0x40000000#32
/-- 1. -/
abbrev one : EReal := Ideal.ofBits .f32 0x3F800000#32

/-- The absolute value as the programs compute it. -/
abbrev mag (x : EReal) : EReal := max x (-x)

/-- The row divided by its guarded Euclidean norm. -/
def unit (k : Row) : Row := fun i => k i * Ideal.rsqrt ((∑ j, k j * k j) + eps)

/-- The normalised and scaled query. -/
def query (q : Row) : Row := fun i => unit q i * sixteenth

/-- Inner product of two rows. -/
def dot (x y : Row) : EReal := ∑ i, x i * y i

/-- The correction a row receives: the rate times what the decayed state misses of the value. -/
def delta (k c : Row) (g bt v s : EReal) : EReal := bt * (v - Ideal.exp g * (dot (unit k) c * s))

/-- The step's output for the row. -/
def output (q k c : Row) (g bt v s : EReal) : EReal :=
  Ideal.exp g * (dot (query q) c * s) + dot (query q) (unit k) * delta k c g bt v s

/-! ### The plain formulas -/

/-- The row after the step: decayed and corrected. -/
def newRow (k c : Row) (g bt v s : EReal) : Row := fun i => Ideal.exp g * (c i * s) + delta k c g bt v s * unit k i

/-- The largest magnitude in a row. -/
def amax (x : Row) : EReal := Finset.univ.sup fun i => mag (x i)

/-- The exponent the plain quantiser chooses for a row whose largest magnitude over 448 is `x`. -/
def plainExp (x : EReal) : EReal :=
  if x < leastNormal then 0 else Ideal.liftRound Int.floor (Ideal.div (Ideal.log x) (Ideal.log two)) + one

/-- The plain quantiser's scale of the row after the step. -/
def plainScale (k c : Row) (g bt v s : EReal) : EReal :=
  Ideal.exp2 (plainExp (amax (newRow k c g bt v s) * inv448))

/-- The plain quantiser's codes of the row after the step. -/
def plainCode (k c : Row) (g bt v s : EReal) : Row := fun i =>
  min top448 (max bot448
    (newRow k c g bt v s i * Ideal.exp2 (0 - plainExp (amax (newRow k c g bt v s) * inv448))))

/-! ### What the kernel computes -/

/-- The float whose word has `ex` as its exponent field and nothing else. -/
def pow (ex : BitVec 32) : EReal := Ideal.ofBits .f32 (ex <<< 23)

/-- One step of the search for the exponent field: set bit `b` if the float it names is still at most `x`. -/
def step (x : EReal) (b ex : BitVec 32) : BitVec 32 := if pow (ex + b) ≤ x then ex + b else ex

/-- The exponent field the kernel finds for `x`. -/
def field (x : EReal) : BitVec 32 :=
  step x 1#32 (step x 2#32 (step x 4#32 (step x 8#32 (step x 16#32 (step x 32#32 (step x 64#32 (step x 128#32 0#32)))))))

/-- The kernel's exponent: that of the next power of two, 0 for a subnormal. -/
def fieldExp (x : EReal) : BitVec 32 := if field x = 0#32 then 0#32 else field x - 126#32

/-- The number the kernel divides the row by: the decayed scale, or a bound on the correction if the scale is far below it. -/
def divisor (k c : Row) (g bt v s : EReal) : EReal :=
  if mag (delta k c g bt v s) * (amax (unit k) * tiny) ≤ mag (Ideal.exp g * s) then Ideal.exp g * s
  else mag (delta k c g bt v s) * (amax (unit k) * tiny)

/-- The correction in units of the divisor. -/
def ratio (k c : Row) (g bt v s : EReal) : EReal :=
  if divisor k c g bt v s = 0 then 0 else Ideal.div (delta k c g bt v s) (divisor k c g bt v s)

/-- The row after the step in units of the divisor. -/
def scaled (k c : Row) (g bt v s : EReal) : Row := fun i => c i + unit k i * ratio k c g bt v s

/-- What the kernel reads the exponent field of. -/
def kernelArg (k c : Row) (g bt v s : EReal) : EReal :=
  mag (divisor k c g bt v s) * amax (scaled k c g bt v s) * inv448

/-- The kernel's scale of the row after the step. -/
def kernelScale (k c : Row) (g bt v s : EReal) : EReal := pow (fieldExp (kernelArg k c g bt v s) + 127#32)

/-- The kernel's codes of the row after the step. -/
def kernelCode (k c : Row) (g bt v s : EReal) : Row := fun i =>
  min top448 (max bot448
    (scaled k c g bt v s i * (divisor k c g bt v s * pow (127#32 - fieldExp (kernelArg k c g bt v s)))))

/-- The range the claim about codes and scales is stated on: the codes within the format's ±448, the correction in every entry at
    most 2⁴⁰ times the decayed scale, that scale finite, and the largest magnitude of the new row over 448 below 2¹²⁶. -/
def InRange (k c : Row) (g bt v s : EReal) : Prop :=
  (∀ i, mag (c i) ≤ top448)
    ∧ mag (delta k c g bt v s) * amax (unit k) ≤ Ideal.ofBits .f32 0x53800000#32 * mag (Ideal.exp g * s)
    ∧ mag (Ideal.exp g * s) < Ideal.ofBits .f32 0x7F800000#32
    ∧ amax (newRow k c g bt v s) * inv448 < Ideal.ofBits .f32 0x7E800000#32

/-- Taking a maximum from `−∞` on is the supremum. -/
theorem fold_max {n : ℕ} (f : Fin n → EReal) :
    Finset.fold max (Ideal.ofBits .f32 0xFF800000#32) f Finset.univ = Finset.univ.sup f := by
  have e : Ideal.ofBits .f32 0xFF800000#32 = (⊥ : EReal) := by
    unfold Ideal.ofBits Ideal.ieee
    simp
  rw [e]; rfl

end Cert.Rows

end
-- ==== Proof.KernelRow.lean ====
/-
  THE KERNEL'S VALUES PER ROW, before anything passes through its scratch buffers (hand-written, untrusted): each payload of
  the body read at an index, in terms of `Rows`. A block of the grid holds six heads; head `h`, channel `j` is one row.
-/
module

public import proofs.«01_k».proof.Proof.Gen.KernelIdeal.Value
public import proofs.«01_k».proof.Proof.Rows
public import Idealize.ShloMosaic.Lib.Pipeline.ReadBack
public import Idealize.ShloMosaic.Lib.Pipeline.ValueKit.Acc

@[expose] public section

set_option maxRecDepth 16384

noncomputable section

namespace Cert.KernelRow

open Idealize.ShloMosaic Idealize.ShloMosaic.TcCoe
open Cert.KernelIdeal Cert.KernelIdeal.Gen

open Cert.Rows

/-- The key (or query) of head `h` in a block of six. -/
abbrev headRow (x : S1x1x6x256.Idx → EReal) (h : Fin 6) : Row := fun i => x (ix4 0 0 h i)

/-- The codes of head `h`, channel `j` in a block of six heads. -/
abbrev codeRow (x : S1x6x512x256.Idx → EReal) (h : Fin 6) (j : Fin 512) : Row := fun i => x (ix4 0 h j i)

/-- A select under a comparison of a head's number with a constant. -/
theorem pick {α : Type} (h : Fin 6) (n : ℕ) (hn : n < 6) (a b : α) :
    Scalar.select (IntOp.cmpi .eq (BitVec.ofNat 32 h.val) (BitVec.ofNat 32 n)) a b = if h.val = n then a else b := by
  have key : ∀ h n : Fin 6, IntOp.cmpi .eq (BitVec.ofNat 32 h.val) (BitVec.ofNat 32 n.val)
      = if h.val = n.val then 1#1 else 0#1 := by decide
  rw [key h ⟨n, hn⟩]
  unfold Scalar.select
  by_cases c : h.val = n <;> simp [c]

/-- The normalised keys. -/
theorem key_at (x : Vec Ideal S1x1x6x256 .bf16) (h : Fin 6) (i : Fin 256) :
    k0_pay3 (F := Ideal) x (ix2 h i) = unit (headRow x h) i := by
  pointwise [k0_pay3, unit, headRow]

/-- The normalised keys, widened. -/
theorem key32_at (x : Vec Ideal S1x1x6x256 .bf16) (h : Fin 6) (i : Fin 256) :
    k0_pay4 (F := Ideal) x (ix2 h i) = unit (headRow x h) i := by
  pointwise [k0_pay4, key_at]

/-- The normalised and scaled queries. -/
theorem query_at (x : Vec Ideal S1x1x6x256 .bf16) (h : Fin 6) (i : Fin 256) :
    k0_pay2 (F := Ideal) x (ix2 h i) = query (headRow x h) i := by
  pointwise [k0_pay2, query, unit, headRow]

/-- The inner product of a head's query and key. -/
theorem qk_at (x0 x1 : Vec Ideal S1x1x6x256 .bf16) (h : Fin 6) :
    k0_pay5 (F := Ideal) x0 x1 (ix2 h 0) = dot (query (headRow x0 h)) (unit (headRow x1 h)) := by
  pointwise [k0_pay5, dot, query_at, key32_at]

/-- The largest magnitude in a head's key. -/
theorem kmax_at (x1 : Vec Ideal S1x1x6x256 .bf16) (h : Fin 6) :
    k0_pay6 (F := Ideal) x1 (ix2 h 0) = amax (unit (headRow x1 h)) := by
  pointwise [k0_pay6, amax, key32_at]
  exact fold_max _

/-- A row of six turned into a column by a diagonal mask and a sum. -/
theorem column_at (v : FVec Ideal S1x6 .f32) (h : Fin 6) :
    k0_pay9 (F := Ideal) v k0_pay8 (FloatOps.ofBits FTy.f32 0#32) (ix2 h 0) = v (ix2 0 h) := by
  pointwise [k0_pay9, k0_pay8]
  rw [Finset.sum_congr rfl fun x _ => pick h x.val x.isLt _ _]
  simp [Fin.val_inj]

/-- The column of decay factors. -/
theorem decay_at (v : FVec Ideal S1x1x6 .f32) (h : Fin 6) :
    k0_pay9 (F := Ideal) (k0_pay7 v) k0_pay8 (FloatOps.ofBits FTy.f32 0#32) (ix2 h 0) = Ideal.exp (v (ix3 0 0 h)) := by
  rw [column_at]
  pointwise [k0_pay7]

/-- The column of rates. -/
theorem rate_at (v : FVec Ideal S1x1x6 .f32) (h : Fin 6) :
    k0_pay10 (F := Ideal) v (ix2 h 0) = v (ix3 0 0 h) := by
  pointwise [k0_pay10]
  rw [Finset.sum_congr rfl fun x _ => pick h x.val x.isLt _ _]
  simp [Fin.val_inj]

/-- The products of every row with its head's key, selected head by head. -/
def keyDots (x1 : Vec Ideal S1x1x6x256 .bf16) (x5 : Vec Ideal S1x6x512x256 .fp8e4m3) : FVec Ideal S6x512 .f32 :=
  k0_pay19 (k0_pay3 x1) (iota Kind.tc S6x512 32 [0] iota_S6x512_d0_w32)
    (k0_pay15 (k0_pay3 x1)
      (View.ld x5 (Rect.unit ![0, 0, 0, 0] ![1, 1, 512, 256] inb_S1x6x512x256_S1x1x512x256_0_0_0_0))
      (View.ld x5 (Rect.unit ![0, 1, 0, 0] ![1, 1, 512, 256] inb_S1x6x512x256_S1x1x512x256_0_1_0_0)))
    (View.ld x5 (Rect.unit ![0, 2, 0, 0] ![1, 1, 512, 256] inb_S1x6x512x256_S1x1x512x256_0_2_0_0))
    (View.ld x5 (Rect.unit ![0, 3, 0, 0] ![1, 1, 512, 256] inb_S1x6x512x256_S1x1x512x256_0_3_0_0))
    (View.ld x5 (Rect.unit ![0, 4, 0, 0] ![1, 1, 512, 256] inb_S1x6x512x256_S1x1x512x256_0_4_0_0))

/-- The products of every row with its head's query, selected head by head. -/
def queryDots (x0 : Vec Ideal S1x1x6x256 .bf16) (x5 : Vec Ideal S1x6x512x256 .fp8e4m3) : FVec Ideal S6x512 .f32 :=
  k0_pay20 (k0_pay2 x0) (iota Kind.tc S6x512 32 [0] iota_S6x512_d0_w32)
    (k0_pay12 (k0_pay2 x0)
      (View.ld x5 (Rect.unit ![0, 0, 0, 0] ![1, 1, 512, 256] inb_S1x6x512x256_S1x1x512x256_0_0_0_0)))
    (k0_pay14 (k0_pay2 x0)
      (View.ld x5 (Rect.unit ![0, 1, 0, 0] ![1, 1, 512, 256] inb_S1x6x512x256_S1x1x512x256_0_1_0_0)))
    (View.ld x5 (Rect.unit ![0, 2, 0, 0] ![1, 1, 512, 256] inb_S1x6x512x256_S1x1x512x256_0_2_0_0))
    (View.ld x5 (Rect.unit ![0, 3, 0, 0] ![1, 1, 512, 256] inb_S1x6x512x256_S1x1x512x256_0_3_0_0))
    (View.ld x5 (Rect.unit ![0, 4, 0, 0] ![1, 1, 512, 256] inb_S1x6x512x256_S1x1x512x256_0_4_0_0))

/-- The last head's codes. -/
def lastCodes (x5 : Vec Ideal S1x6x512x256 .fp8e4m3) : Vec Ideal S1x1x512x256 .fp8e4m3 :=
  View.ld x5 (Rect.unit ![0, 5, 0, 0] ![1, 1, 512, 256] inb_S1x6x512x256_S1x1x512x256_0_5_0_0)

/-- With the last head's product selected in, the products with the keys are the rows' own. -/
theorem keyDots_at (x1 : Vec Ideal S1x1x6x256 .bf16) (x5 : Vec Ideal S1x6x512x256 .fp8e4m3) (h : Fin 6) (j : Fin 512) :
    (if h.val = 5 then ∑ i : Fin 256, k0_pay3 (F := Ideal) x1 (ix2 h i) * lastCodes x5 (ix4 0 0 j i) else keyDots x1 x5 (ix2 h j))
      = dot (unit (headRow x1 h)) (codeRow x5 h j) := by
  pointwise [keyDots, lastCodes, k0_pay19, k0_pay15, k0_pay11, k0_pay13, k0_pay16, k0_pay17, k0_pay18, key_at, dot]
  simp (disch := omega) only [pick]
  fin_cases h <;> rfl

/-- With the last head's product selected in, the products with the queries are the rows' own. -/
theorem queryDots_at (x0 : Vec Ideal S1x1x6x256 .bf16) (x5 : Vec Ideal S1x6x512x256 .fp8e4m3) (h : Fin 6) (j : Fin 512) :
    (if h.val = 5 then ∑ i : Fin 256, k0_pay2 (F := Ideal) x0 (ix2 h i) * lastCodes x5 (ix4 0 0 j i) else queryDots x0 x5 (ix2 h j))
      = dot (query (headRow x0 h)) (codeRow x5 h j) := by
  pointwise [queryDots, lastCodes, k0_pay20, k0_pay12, k0_pay14, k0_pay11, k0_pay13, k0_pay16, k0_pay17, k0_pay18, query_at, dot]
  simp (disch := omega) only [pick]
  fin_cases h <;> rfl

/-- The corrections of a block. -/
def deltaBlock (x1 : Vec Ideal S1x1x6x256 .bf16) (x2 : Vec Ideal S1x1x6x512 .bf16) (x3 x4 : Vec Ideal S1x1x6 .f32)
    (x5 : Vec Ideal S1x6x512x256 .fp8e4m3) (x6 : Vec Ideal S1x6x512 .f32) : FVec Ideal S6x512 .f32 :=
  k0_pay23 (k0_pay3 x1) (k0_pay9 (k0_pay7 x3) k0_pay8 (FloatOps.ofBits FTy.f32 0#32)) (k0_pay10 x4)
    (iota Kind.tc S6x512 32 [0] iota_S6x512_d0_w32) (keyDots x1 x5) (lastCodes x5) x6 x2

/-- A block's corrections are its rows'. -/
theorem delta_at (x1 : Vec Ideal S1x1x6x256 .bf16) (x2 : Vec Ideal S1x1x6x512 .bf16) (x3 x4 : Vec Ideal S1x1x6 .f32)
    (x5 : Vec Ideal S1x6x512x256 .fp8e4m3) (x6 : Vec Ideal S1x6x512 .f32) (h : Fin 6) (j : Fin 512) :
    deltaBlock x1 x2 x3 x4 x5 x6 (ix2 h j) = delta (headRow x1 h) (codeRow x5 h j) (x3 (ix3 0 0 h)) (x4 (ix3 0 0 h))
      (x2 (ix4 0 0 h j)) (x6 (ix3 0 h j)) := by
  rw [deltaBlock, delta, ← keyDots_at, ← decay_at, ← rate_at x4 h]
  pointwise [k0_pay23, k0_pay22, k0_pay21]
  rw [pick h 5 (by omega)]

/-- The divisors of a block. -/
def divisorBlock (x1 : Vec Ideal S1x1x6x256 .bf16) (x2 : Vec Ideal S1x1x6x512 .bf16) (x3 x4 : Vec Ideal S1x1x6 .f32)
    (x5 : Vec Ideal S1x6x512x256 .fp8e4m3) (x6 : Vec Ideal S1x6x512 .f32) : FVec Ideal S6x512 .f32 :=
  k0_pay25 (k0_pay3 x1) (k0_pay6 x1) (k0_pay9 (k0_pay7 x3) k0_pay8 (FloatOps.ofBits FTy.f32 0#32)) (k0_pay10 x4)
    (iota Kind.tc S6x512 32 [0] iota_S6x512_d0_w32) (keyDots x1 x5) (lastCodes x5) x6 x2

/-- A block's divisors are its rows'. -/
theorem divisor_at (x1 : Vec Ideal S1x1x6x256 .bf16) (x2 : Vec Ideal S1x1x6x512 .bf16) (x3 x4 : Vec Ideal S1x1x6 .f32)
    (x5 : Vec Ideal S1x6x512x256 .fp8e4m3) (x6 : Vec Ideal S1x6x512 .f32) (h : Fin 6) (j : Fin 512) :
    divisorBlock x1 x2 x3 x4 x5 x6 (ix2 h j) = divisor (headRow x1 h) (codeRow x5 h j) (x3 (ix3 0 0 h)) (x4 (ix3 0 0 h))
      (x2 (ix4 0 0 h j)) (x6 (ix3 0 h j)) := by
  rw [divisorBlock, divisor, ← delta_at, ← decay_at, ← kmax_at, deltaBlock]
  pointwise [k0_pay25, k0_pay22]
  rfl

/-- The ratios of a block. -/
def ratioBlock (x1 : Vec Ideal S1x1x6x256 .bf16) (x2 : Vec Ideal S1x1x6x512 .bf16) (x3 x4 : Vec Ideal S1x1x6 .f32)
    (x5 : Vec Ideal S1x6x512x256 .fp8e4m3) (x6 : Vec Ideal S1x6x512 .f32) : FVec Ideal S6x512 .f32 :=
  k0_pay26 (deltaBlock x1 x2 x3 x4 x5 x6) (divisorBlock x1 x2 x3 x4 x5 x6)

/-- A block's ratios are its rows'. -/
theorem ratio_at (x1 : Vec Ideal S1x1x6x256 .bf16) (x2 : Vec Ideal S1x1x6x512 .bf16) (x3 x4 : Vec Ideal S1x1x6 .f32)
    (x5 : Vec Ideal S1x6x512x256 .fp8e4m3) (x6 : Vec Ideal S1x6x512 .f32) (h : Fin 6) (j : Fin 512) :
    ratioBlock x1 x2 x3 x4 x5 x6 (ix2 h j) = ratio (headRow x1 h) (codeRow x5 h j) (x3 (ix3 0 0 h)) (x4 (ix3 0 0 h))
      (x2 (ix4 0 0 h j)) (x6 (ix3 0 h j)) := by
  rw [ratio, ← divisor_at, ← delta_at]
  pointwise [ratioBlock, k0_pay26]

/-- The body leaves in the output block, for every head and channel, the row's output. -/
theorem output_at (c : Dev nD) (i : grid0.Coords) (arg1 : Memref sig .tc .vmem S1x1x6x256 .bf16) (harg1 : arg1.IsWhole) (arg2 : Memref sig .tc .vmem S1x1x6x256 .bf16) (harg2 : arg2.IsWhole) (arg3 : Memref sig .tc .vmem S1x1x6x512 .bf16) (harg3 : arg3.IsWhole) (arg4 : Memref sig .tc .vmem S1x1x6 .f32) (harg4 : arg4.IsWhole) (arg5 : Memref sig .tc .vmem S1x1x6 .f32) (harg5 : arg5.IsWhole) (arg6 : Memref sig .tc .vmem S1x6x512x256 .fp8e4m3) (harg6 : arg6.IsWhole) (arg7 : Memref sig .tc .vmem S1x6x512 .f32) (harg7 : arg7.IsWhole) (arg8 : Memref sig .tc .vmem S256x256 .fp8e4m3) (harg8 : arg8.IsWhole) (arg9 : Memref sig .tc .vmem S1x1x6x512 .bf16) (harg9 : arg9.IsWhole) (arg10 : Memref sig .tc .vmem S1x6x512x256 .fp8e4m3) (harg10 : arg10.IsWhole) (arg11 : Memref sig .tc .vmem S1x6x512 .f32) (harg11 : arg11.IsWhole) (arg12 : Memref sig .tc .vmem S6x256x512 .f32) (harg12 : arg12.IsWhole) (arg13 : Memref sig .tc .vmem S48x512 .f32) (harg13 : arg13.IsWhole) (arg14 : Memref sig .tc .vmem S8x512 .f32) (harg14 : arg14.IsWhole)
    (x0 : Vec Ideal S1x1x6x256 .bf16) (x1 : Vec Ideal S1x1x6x256 .bf16) (x2 : Vec Ideal S1x1x6x512 .bf16) (x3 : Vec Ideal S1x1x6 .f32) (x4 : Vec Ideal S1x1x6 .f32) (x5 : Vec Ideal S1x6x512x256 .fp8e4m3) (x6 : Vec Ideal S1x6x512 .f32) (x7 : Vec Ideal S256x256 .fp8e4m3) (h : Fin 6) (j : Fin 512) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix4 0 0 h j) = output (headRow x0 h) (headRow x1 h) (codeRow x5 h j) (x3 (ix3 0 0 h))
      (x4 (ix3 0 0 h)) (x2 (ix4 0 0 h j)) (x6 (ix3 0 h j)) := by
  frame_open
  simp (disch := decide) only [↓ View.readCov_skip, ↓ View.readCov_cons_toLoadRect, ↓ View.readCov_fill]
  frame_out
  rw [output, ← queryDots_at, ← delta_at, ← decay_at, ← qk_at]
  pointwise [k0_pay24, k0_pay22, k0_pay21, deltaBlock]
  rw [pick h 5 (by omega)]
  have hl : ∀ x, lastCodes x5 (ix4 0 0 j x) = x5 (ix4 0 5 j x) := fun x => by pointwise [lastCodes]
  simp only [hl]
  rfl

end Cert.KernelRow

end
-- ==== Proof.Scaled.lean ====
module

public import proofs.«01_k».proof.Proof.KernelRow
public import Idealize.ShloMosaic.Lib.Pipeline.ReadBack
public import Idealize.ShloMosaic.Lib.Pipeline.ValueKit
public import Idealize.ShloMosaic.Lib.Pipeline.ValueKit.Acc

/-! What passes through the kernel's scratch buffers: the rows in units of their divisors, their largest magnitudes, and the
scales and factors these give. Every one of the 24 pieces (head, 128 channels) is an instance of the blocks defined here. -/

@[expose] public section

set_option maxRecDepth 16384

noncomputable section

namespace Cert.KernelRow

open Idealize.ShloMosaic Idealize.ShloMosaic.TcCoe
open Cert.KernelIdeal Cert.KernelIdeal.Gen

open Cert.Rows

/-- Channel `k` of the 128 from `off` on. -/
def shift (off : ℕ) (h : off + 128 ≤ 512) (k : Fin 128) : Fin 512 := ⟨off + k.val, by omega⟩

/-- A row of 128 read back from a scratch block written in its first six rows. -/
theorem factor_read {κ : Kind} {sp : Space} (v : View sig κ sp S8x512 .f32) (inb) (R : (Rect.unit (s := S8x512) ![0, 0] ![6, 512] inb).shape.Idx → EReal)
    (L : List (View.Piece (Elt Ideal) S8x512 .f32)) (h off : ℕ) (hh : h < 6) (ho : off + 128 ≤ 512) (inb') :
    v.readCov ((⟨Rect.unit ![0, 0] ![6, 512] inb, R⟩ : View.Piece (Elt Ideal) S8x512 .f32) :: L) (Rect.unit ![h, off] ![1, 128] inb').toLoadRect
      = fun x => R (ix2 (n0 := 6) (n1 := 512) ⟨h, hh⟩ (shift off ho (x 1))) := by
  rw [View.readCov_eq_canon']
  funext x
  have e : (Rect.unit (s := S8x512) ![h, off] ![1, 128] inb').toLoadRect.idx x = (Rect.unit (s := S8x512) ![0, 0] ![6, 512] inb).emb
      (ix2 (n0 := 6) (n1 := 512) ⟨h, hh⟩ (shift off ho (x 1))) := by
    have h0 : (x 0).val = 0 := by have : (x 0).val < 1 := (x 0).isLt; omega
    blk_ext [h0]
    · rw [Rect.idx_unit_val]
      show h + (x 0).val = h
      omega
    · rw [Rect.idx_unit_val]
      rfl
  rw [e]
  exact View.canon_cons_emb _ _ _ _

/-- The 128 channels `o, …, o + 127` of a block of 256 codes, transposed by a product with the identity, plus the key times
    the channels' ratios. -/
def scaledBlock (K : FVec Ideal S6x256 .f32) (E : Vec Ideal S256x256 .fp8e4m3) (C : Vec Ideal S1x1x256x256 .fp8e4m3) (f : Vec Ideal S1x128 .f32)
    (h o : ℕ) (eh : S256x6.Slices ![0, h] S256x1) (eo : S256x256.Slices ![0, o] S256x128) : FVec Ideal S256x128 .f32 :=
  addf
    (extractStridedSlice S256x128 ![0, o]
      (matmul (φ₁ := .fp8e4m3) (φ₂ := .fp8e4m3) dot_S256x256_S256x256_S256x256_1_1_0_0_n_n none
        (shapeCast S256x256 E shapeCasts_S256x256_S256x256)
        (shapeCast S256x256 C shapeCasts_S1x1x256x256_S256x256 : FVec Ideal S256x256 .fp8e4m3) (constant S256x256 .f32 0x00000000#32)) eo)
    (mulf
      (broadcastTo S256x128
        (shapeCast S256x1
          (extractStridedSlice S256x1 ![0, h] (transpose S256x6 [1, 0] K transposes_S6x256_p1_0_S256x6) eh)
          shapeCasts_S256x1_S256x1) broadcasts_S256x1_S256x128)
      (broadcastTo S256x128 f broadcasts_S1x128_S256x128))

/-- An entry of such a block. -/
theorem scaledBlock_at (K : FVec Ideal S6x256 .f32) (E : Vec Ideal S256x256 .fp8e4m3)
    (hE : ∀ i l : Fin 256, E (ix2 i l) = if i = l then (1 : EReal) else 0)
    (C : Vec Ideal S1x1x256x256 .fp8e4m3) (f : Vec Ideal S1x128 .f32)
    (h o : ℕ) (hh : h < 6) (ho : o + 128 ≤ 256) (eh : S256x6.Slices ![0, h] S256x1) (eo : S256x256.Slices ![0, o] S256x128)
    (i : Fin 256) (j : Fin 128) :
    scaledBlock K E C f h o eh eo (ix2 i j)
      = (C (ix4 0 0 ⟨o + j.val, by omega⟩ i) : EReal) + K (ix2 ⟨h, hh⟩ i) * f (ix2 0 j) := by
  generalize hy : (C (ix4 0 0 ⟨o + j.val, by omega⟩ i) : EReal) + K (ix2 ⟨h, hh⟩ i) * f (ix2 0 j) = y
  pointwise [scaledBlock]
  rw [← hy]
  refine congrArg₂ (· + ·) ?_ rfl
  refine (Finset.sum_eq_single i (fun x _ hx => ?_) (fun hi => absurd (Finset.mem_univ i) hi)).trans ?_
  · rw [hE, if_neg (Ne.symm hx)]
    exact zero_mul _
  · rw [hE, if_pos rfl]
    exact one_mul _

/-- The largest magnitudes of a block of 256 rows, 32 rows apart by 8 at a time. -/
def magBlock (u : FVec Ideal S256x128 .f32) : FVec Ideal S8x128 .f32 :=
  shapeCast S8x128
    (multiReduction .maximumf [0] S8x128 (shapeCast S32x8x128 (absf u) shapeCasts_S256x128_S32x8x128) 0xFF800000#32
      reduces_S32x8x128_S8x128 (.inl rfl) rfl) shapeCasts_S8x128_S8x128

theorem magBlock_at (u : FVec Ideal S256x128 .f32) (r : Fin 8) (j : Fin 128) :
    magBlock u (ix2 r j) = Finset.univ.sup fun a : Fin 32 => mag (u (ix2 ⟨a.val * 8 + r.val, by omega⟩ j)) := by
  pointwise [magBlock]
  exact fold_max _

theorem argument_at (A : FVec Ideal S6x512 .f32) (M : Vec Ideal S48x512 .f32) (h : Fin 6) (j : Fin 512) :
    k0_pay128 (F := Ideal) A M (ix2 h j)
      = mag (A (ix2 h j)) * (Finset.univ.sup fun r : Fin 8 => (M (ix2 ⟨h.val * 8 + r.val, by omega⟩ j) : EReal)) * inv448 := by
  pointwise [k0_pay128]
  rw [fold_max]
  rfl

/-- One step of the search for the exponent field, over a block. -/
def stepBlock (x : FVec Ideal S6x512 .f32) (b : BitVec 32) (ex : IVec S6x512 32) : IVec S6x512 32 :=
  select (cmpf .ole (bitcastToFloat .f32 (shli (addi ex (broadcast S6x512 b)) (broadcast S6x512 23#32))) x)
    (addi ex (broadcast S6x512 b)) ex

theorem stepBlock_at (x : FVec Ideal S6x512 .f32) (b : BitVec 32) (ex : IVec S6x512 32) (h : Fin 6) (j : Fin 512) :
    stepBlock x b ex (ix2 h j) = step (x (ix2 h j)) b (ex (ix2 h j)) := by
  pointwise [stepBlock]
  rfl

/-- The exponent field found of a block. -/
def fieldBlock (x : FVec Ideal S6x512 .f32) : IVec S6x512 32 :=
  stepBlock x 1#32 (stepBlock x 2#32 (stepBlock x 4#32 (stepBlock x 8#32 (stepBlock x 16#32 (stepBlock x 32#32
    (stepBlock x 64#32 (stepBlock x 128#32 (broadcast S6x512 0#32))))))))

theorem fieldBlock_at (x : FVec Ideal S6x512 .f32) (h : Fin 6) (j : Fin 512) :
    fieldBlock x (ix2 h j) = field (x (ix2 h j)) := by
  unfold fieldBlock field
  rw [stepBlock_at, stepBlock_at, stepBlock_at, stepBlock_at, stepBlock_at, stepBlock_at, stepBlock_at, stepBlock_at]
  rfl

/-- The exponents of a block from its fields. -/
def exponentBlock (f : IVec S6x512 32) : IVec S6x512 32 :=
  select (cmpi .eq f (broadcast S6x512 0#32)) (broadcast S6x512 0#32) (subi f (broadcast S6x512 126#32))

/-- The exponent fields the kernel finds, from the divisors and the partial maxima. -/
def foundFields (A : FVec Ideal S6x512 .f32) (M : Vec Ideal S48x512 .f32) : IVec S6x512 32 :=
  k0_pay132 (F := Ideal) (k0_pay128 A M) (k0_pay129 A M) (k0_pay130 A M) (k0_pay131 A M)

/-- Where the field found is zero. -/
def foundZeros (A : FVec Ideal S6x512 .f32) (M : Vec Ideal S48x512 .f32) : IVec S6x512 1 :=
  k0_pay133 (F := Ideal) (k0_pay128 A M) (k0_pay129 A M) (k0_pay130 A M) (k0_pay131 A M)

theorem exponent_is (A : FVec Ideal S6x512 .f32) (M : Vec Ideal S48x512 .f32) :
    k0_pay134 (foundFields A M) (foundZeros A M) = exponentBlock (fieldBlock (k0_pay128 (F := Ideal) A M)) := rfl

theorem exponent_at (A : FVec Ideal S6x512 .f32) (M : Vec Ideal S48x512 .f32) (h : Fin 6) (j : Fin 512) :
    k0_pay134 (foundFields A M) (foundZeros A M) (ix2 h j) = fieldExp (k0_pay128 (F := Ideal) A M (ix2 h j)) := by
  rw [exponent_is]
  unfold fieldExp
  rw [← fieldBlock_at]
  generalize fieldBlock (k0_pay128 (F := Ideal) A M) = f
  pointwise [exponentBlock]
  have k : IntOp.cmpi .eq (f (ix2 h j)) 0#32 = if f (ix2 h j) = 0#32 then 1#1 else 0#1 := by
    by_cases e : f (ix2 h j) = 0#32
    · simp [e, IntOp.cmpi]
    · rw [if_neg e]
      show BitVec.ofBool (f (ix2 h j) == 0#32) = 0#1
      rw [beq_eq_false_iff_ne.mpr e]
      rfl
  rw [k]
  by_cases e : f (ix2 h j) = 0#32
  · rw [if_pos e, if_pos e]
    rfl
  · rw [if_neg e, if_neg e]
    rfl

/-- The scales of a block from the numbers whose exponents are searched. -/
theorem pow_at (A : FVec Ideal S6x512 .f32) (M : Vec Ideal S48x512 .f32) (h : Fin 6) (j : Fin 512) :
    k0_pay135 (F := Ideal) (foundFields A M) (foundZeros A M) (ix3 0 h j) = pow (fieldExp (k0_pay128 (F := Ideal) A M (ix2 h j)) + 127#32) := by
  rw [← exponent_at]
  unfold k0_pay135
  generalize k0_pay134 (foundFields A M) (foundZeros A M) = e
  pointwise
  rfl

/-- The factors of a block, likewise. -/
theorem factor_at (A : FVec Ideal S6x512 .f32) (M : Vec Ideal S48x512 .f32) (h : Fin 6) (j : Fin 512) :
    k0_pay136 (F := Ideal) A (foundFields A M) (foundZeros A M) (ix2 h j)
      = A (ix2 h j) * pow (127#32 - fieldExp (k0_pay128 (F := Ideal) A M (ix2 h j))) := by
  rw [← exponent_at]
  unfold k0_pay136
  generalize k0_pay134 (foundFields A M) (foundZeros A M) = e
  pointwise
  rfl

section Pieces

variable (x1 : Vec Ideal S1x1x6x256 .bf16) (x5 : Vec Ideal S1x6x512x256 .fp8e4m3) (x7 : Vec Ideal S256x256 .fp8e4m3)
  (R : FVec Ideal S6x512 .f32)

/-- A row entry in units of the divisor, the ratios given. -/
def entryAt (h : Fin 6) (i : Fin 256) (j : Fin 512) : EReal := codeRow x5 h j i + unit (headRow x1 h) i * R (ix2 h j)

/-- What the kernel keeps of the magnitudes: for every head and channel eight partial maxima, row `r` over the entries
    `8 a + r`. -/
def partialMax : Vec Ideal S48x512 .f32 := fun y => Finset.univ.sup fun a : Fin 32 =>
  mag (entryAt x1 x5 R ⟨(y 0).val / 8, by have : (y 0).val < 48 := (y 0).isLt; omega⟩
    ⟨a.val * 8 + (y 0).val % 8, by omega⟩ (y 1))

variable (hE : ∀ i l : Fin 256, x7 (ix2 i l) = if i = l then (1 : EReal) else 0)
  {h t o off : ℕ} (hh : h < 6) (hoff : off = t + o) (ho : o + 128 ≤ 256) (ht : off + 128 ≤ 512)
  (inb) (eh : S256x6.Slices ![0, h] S256x1) (eo : S256x256.Slices ![0, o] S256x128)

include hE hoff ho in
/-- The rows of a piece. -/
theorem entry_piece (i : Fin 256) (j : Fin 128) :
    scaledBlock (k0_pay4 x1) x7 (View.ld x5 (Rect.unit ![0, h, t, 0] ![1, 1, 256, 256] inb))
      (fun x => R (ix2 ⟨h, hh⟩ (shift off ht (x 1)))) h o eh eo (ix2 i j)
      = entryAt x1 x5 R ⟨h, hh⟩ i (shift off ht j) := by
  rw [scaledBlock_at _ _ hE _ _ h o hh ho, key32_at]
  refine congrArg₂ (· + ·) ?_ rfl
  refine congrArg x5 ?_
  subst hoff
  blk_ext
  · rw [Rect.idx_unit_val]
    exact Nat.add_zero h
  · rw [Rect.idx_unit_val]
    exact (Nat.add_assoc t o j.val).symm
  · rw [Rect.idx_unit_val]
    exact Nat.zero_add i.val

include hE hoff ho in
/-- The partial maxima of a piece. -/
theorem mag_piece (x : S8x128.Idx) (y : S48x512.Idx) (h0 : (y 0).val = 8 * h + (x 0).val) (h1 : (y 1).val = off + (x 1).val) :
    magBlock (scaledBlock (k0_pay4 x1) x7 (View.ld x5 (Rect.unit ![0, h, t, 0] ![1, 1, 256, 256] inb))
      (fun x => R (ix2 ⟨h, hh⟩ (shift off ht (x 1)))) h o eh eo) x
      = partialMax x1 x5 R y := by
  have b0 : (x 0).val < 8 := (x 0).isLt
  have b1 : (x 1).val < 128 := (x 1).isLt
  have e : x = ix2 (n0 := 8) (n1 := 128) (x 0) (x 1) := by blk_ext
  refine (congrArg _ e).trans ((magBlock_at _ (x 0) (x 1)).trans ?_)
  refine Finset.sup_congr rfl fun a _ => ?_
  refine congrArg mag ((entry_piece x1 x5 x7 R hE hh hoff ho ht _ _ _ _ _).trans ?_)
  congr 1
  · exact Fin.ext (by show h = (y 0).val / 8; omega)
  · exact Fin.ext (by show a.val * 8 + (x 0).val = a.val * 8 + (y 0).val % 8; omega)
  · exact Fin.ext h1.symm

end Pieces

end Cert.KernelRow

end
-- ==== Proof.KernelScale.lean ====
module

public import proofs.«01_k».proof.Proof.Scaled

/-! The kernel's new scales, per row. -/

@[expose] public section

set_option maxRecDepth 16384

noncomputable section

namespace Cert.KernelRow

open Idealize.ShloMosaic Idealize.ShloMosaic.TcCoe
open Cert.KernelIdeal Cert.KernelIdeal.Gen

open Cert.Rows

/-- A supremum over 256 entries, taken 8 apart first. -/
theorem sup_split (f : Fin 256 → EReal) (g : Fin 8 → Fin 32 → Fin 256) (hg : ∀ r a, (g r a).val = a.val * 8 + r.val) :
    (Finset.univ.sup fun r => Finset.univ.sup fun a => f (g r a)) = Finset.univ.sup f := by
  refine le_antisymm (Finset.sup_le fun r _ => Finset.sup_le fun a _ => Finset.le_sup (f := f) (Finset.mem_univ _))
    (Finset.sup_le fun i _ => ?_)
  have e : g ⟨i.val % 8, by omega⟩ ⟨i.val / 8, by omega⟩ = i := Fin.ext (by rw [hg]; show i.val / 8 * 8 + i.val % 8 = _; omega)
  rw [← e]
  exact (Finset.le_sup (f := fun a => f (g ⟨i.val % 8, by omega⟩ a)) (Finset.mem_univ _)).trans
    (Finset.le_sup (f := fun r => Finset.univ.sup fun a => f (g r a)) (Finset.mem_univ _))

section

variable (x1 : Vec Ideal S1x1x6x256 .bf16) (x2 : Vec Ideal S1x1x6x512 .bf16) (x3 x4 : Vec Ideal S1x1x6 .f32)
    (x5 : Vec Ideal S1x6x512x256 .fp8e4m3) (x6 : Vec Ideal S1x6x512 .f32) (h : Fin 6) (j : Fin 512)

/-- The entries, at the block's own ratios. -/
theorem entryAt_ratio (i : Fin 256) :
    entryAt x1 x5 (ratioBlock x1 x2 x3 x4 x5 x6) h i j = scaled (headRow x1 h) (codeRow x5 h j) (x3 (ix3 0 0 h)) (x4 (ix3 0 0 h))
      (x2 (ix4 0 0 h j)) (x6 (ix3 0 h j)) i := by
  unfold entryAt scaled
  rw [ratio_at]

/-- The numbers whose exponents the kernel searches. -/
theorem kernelArg_at :
    k0_pay128 (F := Ideal) (divisorBlock x1 x2 x3 x4 x5 x6) (partialMax x1 x5 (ratioBlock x1 x2 x3 x4 x5 x6)) (ix2 h j)
      = kernelArg (headRow x1 h) (codeRow x5 h j) (x3 (ix3 0 0 h)) (x4 (ix3 0 0 h)) (x2 (ix4 0 0 h j)) (x6 (ix3 0 h j)) := by
  rw [argument_at, divisor_at, kernelArg, amax]
  refine congrArg (fun z => mag (divisor (headRow x1 h) (codeRow x5 h j) (x3 (ix3 0 0 h)) (x4 (ix3 0 0 h)) (x2 (ix4 0 0 h j))
    (x6 (ix3 0 h j))) * z * inv448) ?_
  refine Eq.trans ?_ (sup_split _ (fun r a => ⟨a.val * 8 + r.val, by omega⟩) fun r a => rfl)
  refine Finset.sup_congr rfl fun r _ => Finset.sup_congr rfl fun a _ => congrArg mag ?_
  rw [← entryAt_ratio x1 x2 x3 x4 x5 x6]
  congr 1
  · exact Fin.ext (by show (h.val * 8 + r.val) / 8 = h.val; omega)
  · exact Fin.ext (by show a.val * 8 + (h.val * 8 + r.val) % 8 = a.val * 8 + r.val; omega)

end

/-- The whole scratch buffer read back from its 24 pieces. -/
theorem whole_read {κ : Kind} {sp : Space} (v : View sig κ sp S48x512 .f32) (L : List (View.Piece (Elt Ideal) S48x512 .f32)) (inb)
    (G : Vec Ideal S48x512 .f32) (hG : ∀ y, View.canon L y = G y) :
    v.readCov L (Rect.unit ![0, 0] ![48, 512] inb).toLoadRect = G := by
  rw [View.readCov_eq_canon']
  funext x
  have e : (Rect.unit (s := S48x512) ![0, 0] ![48, 512] inb).toLoadRect.idx x = x := by
    blk_ext
    · rw [Rect.idx_unit_val]
      exact Nat.zero_add _
    · rw [Rect.idx_unit_val]
      exact Nat.zero_add _
  rw [e, hG]

/-- The body leaves in the third output block, for every head and channel, the row's scale. -/
theorem scale_at (c : Dev nD) (i : grid0.Coords) (arg1 : Memref sig .tc .vmem S1x1x6x256 .bf16) (harg1 : arg1.IsWhole) (arg2 : Memref sig .tc .vmem S1x1x6x256 .bf16) (harg2 : arg2.IsWhole) (arg3 : Memref sig .tc .vmem S1x1x6x512 .bf16) (harg3 : arg3.IsWhole) (arg4 : Memref sig .tc .vmem S1x1x6 .f32) (harg4 : arg4.IsWhole) (arg5 : Memref sig .tc .vmem S1x1x6 .f32) (harg5 : arg5.IsWhole) (arg6 : Memref sig .tc .vmem S1x6x512x256 .fp8e4m3) (harg6 : arg6.IsWhole) (arg7 : Memref sig .tc .vmem S1x6x512 .f32) (harg7 : arg7.IsWhole) (arg8 : Memref sig .tc .vmem S256x256 .fp8e4m3) (harg8 : arg8.IsWhole) (arg9 : Memref sig .tc .vmem S1x1x6x512 .bf16) (harg9 : arg9.IsWhole) (arg10 : Memref sig .tc .vmem S1x6x512x256 .fp8e4m3) (harg10 : arg10.IsWhole) (arg11 : Memref sig .tc .vmem S1x6x512 .f32) (harg11 : arg11.IsWhole) (arg12 : Memref sig .tc .vmem S6x256x512 .f32) (harg12 : arg12.IsWhole) (arg13 : Memref sig .tc .vmem S48x512 .f32) (harg13 : arg13.IsWhole) (arg14 : Memref sig .tc .vmem S8x512 .f32) (harg14 : arg14.IsWhole)
    (x0 : Vec Ideal S1x1x6x256 .bf16) (x1 : Vec Ideal S1x1x6x256 .bf16) (x2 : Vec Ideal S1x1x6x512 .bf16) (x3 : Vec Ideal S1x1x6 .f32) (x4 : Vec Ideal S1x1x6 .f32) (x5 : Vec Ideal S1x6x512x256 .fp8e4m3) (x6 : Vec Ideal S1x6x512 .f32) (x7 : Vec Ideal S256x256 .fp8e4m3)
    (hE : ∀ i l : Fin 256, x7 (ix2 i l) = if i = l then (1 : EReal) else 0) (h : Fin 6) (j : Fin 512) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix3 0 h j)
      = kernelScale (headRow x1 h) (codeRow x5 h j) (x3 (ix3 0 0 h)) (x4 (ix3 0 0 h)) (x2 (ix4 0 0 h j)) (x6 (ix3 0 h j)) := by
  rw [kernelScale, ← kernelArg_at]
  frame_open
  simp (disch := decide) only [↓ View.readCov_skip, ↓ View.readCov_cons_toLoadRect, ↓ View.readCov_fill]
  frame_out
  obtain ⟨R, hR⟩ : ∃ R, R = ratioBlock x1 x2 x3 x4 x5 x6 := ⟨_, rfl⟩
  obtain ⟨A, hA⟩ : ∃ A, A = divisorBlock x1 x2 x3 x4 x5 x6 := ⟨_, rfl⟩
  have hR' := hR
  have hA' := hA
  unfold ratioBlock deltaBlock divisorBlock keyDots lastCodes at hR'
  unfold divisorBlock keyDots lastCodes at hA'
  rw [← hR', ← hA', ← hR, ← hA]
  simp (disch := omega) only [factor_read]
  rw [whole_read (G := partialMax x1 x5 R)]
  · exact pow_at A (partialMax x1 x5 R) h j
  · intro y
    canon_tiles x hx
    all_goals dsimp only [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127]
    all_goals exact mag_piece x1 x5 x7 R hE (by omega) (by omega) (by omega) (by omega) _ _ _ x y (by omega) (by omega)

end Cert.KernelRow

end
-- ==== Proof.KernelCode.lean ====
module

public import proofs.«01_k».proof.Proof.KernelScale

/-! The kernel's new codes, per row. -/

@[expose] public section

set_option maxRecDepth 16384

noncomputable section

namespace Cert.KernelRow

open Idealize.ShloMosaic Idealize.ShloMosaic.TcCoe
open Cert.KernelIdeal Cert.KernelIdeal.Gen

open Cert.Rows

/-- The codes of a block of 256 entries by 128 channels under the channels' factors: clipped, transposed. -/
def codeBlock (u : FVec Ideal S256x128 .f32) (f : Vec Ideal S1x128 .f32) : FVec Ideal S1x1x128x256 .fp8e4m3 :=
  shapeCast S1x1x128x256
    (transpose S128x256 [1, 0]
      (truncf .fp8e4m3
        (minimumf (broadcast S256x128 (Scalar.ofBits .f32 0x43E00000#32 : Ideal .f32))
          (maximumf (broadcast S256x128 (Scalar.ofBits .f32 0xC3E00000#32 : Ideal .f32))
            (mulf (shapeCast S256x128 (shapeCast S1x256x128 u shapeCasts_S256x128_S1x256x128) shapeCasts_S1x256x128_S256x128)
              (broadcastTo S256x128 f broadcasts_S1x128_S256x128))))
        bitsLt_fp8e4m3_f32) transposes_S256x128_p1_0_S128x256) shapeCasts_S128x256_S1x1x128x256

theorem codeBlock_at (u : FVec Ideal S256x128 .f32) (f : Vec Ideal S1x128 .f32) (j : Fin 128) (i : Fin 256) :
    codeBlock u f (ix4 0 0 j i) = min top448 (max bot448 (u (ix2 i j) * f (ix2 0 j))) := by
  pointwise [codeBlock]

section Pieces

variable (x1 : Vec Ideal S1x1x6x256 .bf16) (x5 : Vec Ideal S1x6x512x256 .fp8e4m3) (x7 : Vec Ideal S256x256 .fp8e4m3)
  (R F : FVec Ideal S6x512 .f32)

/-- The code of an entry, the ratios and the factors given. -/
def codeOf : Vec Ideal S1x6x512x256 .fp8e4m3 := fun y =>
  min top448 (max bot448 (entryAt x1 x5 R (y 1) (y 3) (y 2) * F (ix2 (n0 := 6) (n1 := 512) (y 1) (y 2))))

/-- The codes of a piece. -/
theorem code_piece (hE : ∀ i l : Fin 256, x7 (ix2 i l) = if i = l then (1 : EReal) else 0)
    {h t o off : ℕ} (hh : h < 6) (hoff : off = t + o) (ho : o + 128 ≤ 256) (ht : off + 128 ≤ 512)
    (inb) (eh : S256x6.Slices ![0, h] S256x1) (eo : S256x256.Slices ![0, o] S256x128)
    (x : S1x1x128x256.Idx) (y : S1x6x512x256.Idx) (h1 : (y 1).val = h + (x 1).val) (h2 : (y 2).val = off + (x 2).val)
    (h3 : (y 3).val = (x 3).val) :
    codeBlock (scaledBlock (k0_pay4 x1) x7 (View.ld x5 (Rect.unit ![0, h, t, 0] ![1, 1, 256, 256] inb))
      (fun x => R (ix2 ⟨h, hh⟩ (shift off ht (x 1)))) h o eh eo) (fun x => F (ix2 ⟨h, hh⟩ (shift off ht (x 1)))) x
      = codeOf x1 x5 R F y := by
  have b0 : (x 0).val < 1 := (x 0).isLt
  have b1 : (x 1).val < 1 := (x 1).isLt
  have e : x = ix4 (n0 := 1) (n1 := 1) (n2 := 128) (n3 := 256) 0 0 (x 2) (x 3) := by
    blk_ext
  have e1 : (⟨h, hh⟩ : Fin 6) = y 1 := Fin.ext (by show h = (y 1).val; omega)
  have e2 : shift off ht (x 2) = y 2 := Fin.ext h2.symm
  have e3 : x 3 = y 3 := Fin.ext h3.symm
  refine (congrArg _ e).trans ((codeBlock_at _ _ (x 2) (x 3)).trans ?_)
  refine congrArg (fun z => min top448 (max bot448 z)) ?_
  refine congrArg₂ (· * ·) ((entry_piece x1 x5 x7 R hE hh hoff ho ht _ _ _ _ _).trans ?_) ?_
  · rw [e1, e2, e3]
  · exact congrArg F (congrArg₂ (ix2 (n0 := 6) (n1 := 512)) e1 e2)

end Pieces

set_option maxHeartbeats 1000000 in
/-- The body leaves in the second output block, for every head, channel and entry, the row's code. -/
theorem code_at (c : Dev nD) (i : grid0.Coords) (arg1 : Memref sig .tc .vmem S1x1x6x256 .bf16) (harg1 : arg1.IsWhole) (arg2 : Memref sig .tc .vmem S1x1x6x256 .bf16) (harg2 : arg2.IsWhole) (arg3 : Memref sig .tc .vmem S1x1x6x512 .bf16) (harg3 : arg3.IsWhole) (arg4 : Memref sig .tc .vmem S1x1x6 .f32) (harg4 : arg4.IsWhole) (arg5 : Memref sig .tc .vmem S1x1x6 .f32) (harg5 : arg5.IsWhole) (arg6 : Memref sig .tc .vmem S1x6x512x256 .fp8e4m3) (harg6 : arg6.IsWhole) (arg7 : Memref sig .tc .vmem S1x6x512 .f32) (harg7 : arg7.IsWhole) (arg8 : Memref sig .tc .vmem S256x256 .fp8e4m3) (harg8 : arg8.IsWhole) (arg9 : Memref sig .tc .vmem S1x1x6x512 .bf16) (harg9 : arg9.IsWhole) (arg10 : Memref sig .tc .vmem S1x6x512x256 .fp8e4m3) (harg10 : arg10.IsWhole) (arg11 : Memref sig .tc .vmem S1x6x512 .f32) (harg11 : arg11.IsWhole) (arg12 : Memref sig .tc .vmem S6x256x512 .f32) (harg12 : arg12.IsWhole) (arg13 : Memref sig .tc .vmem S48x512 .f32) (harg13 : arg13.IsWhole) (arg14 : Memref sig .tc .vmem S8x512 .f32) (harg14 : arg14.IsWhole)
    (x0 : Vec Ideal S1x1x6x256 .bf16) (x1 : Vec Ideal S1x1x6x256 .bf16) (x2 : Vec Ideal S1x1x6x512 .bf16) (x3 : Vec Ideal S1x1x6 .f32) (x4 : Vec Ideal S1x1x6 .f32) (x5 : Vec Ideal S1x6x512x256 .fp8e4m3) (x6 : Vec Ideal S1x6x512 .f32) (x7 : Vec Ideal S256x256 .fp8e4m3)
    (hE : ∀ i l : Fin 256, x7 (ix2 i l) = if i = l then (1 : EReal) else 0) (h : Fin 6) (j : Fin 512) (l : Fin 256) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 (ix4 0 h j l)
      = kernelCode (headRow x1 h) (codeRow x5 h j) (x3 (ix3 0 0 h)) (x4 (ix3 0 0 h)) (x2 (ix4 0 0 h j)) (x6 (ix3 0 h j)) l := by
  frame_open
  simp (disch := decide) only [↓ View.readCov_skip, ↓ View.readCov_cons_toLoadRect, ↓ View.readCov_fill]
  frame_out
  obtain ⟨R, hR⟩ : ∃ R, R = ratioBlock x1 x2 x3 x4 x5 x6 := ⟨_, rfl⟩
  obtain ⟨A, hA⟩ : ∃ A, A = divisorBlock x1 x2 x3 x4 x5 x6 := ⟨_, rfl⟩
  have hR' := hR
  have hA' := hA
  unfold ratioBlock deltaBlock divisorBlock keyDots lastCodes at hR'
  unfold divisorBlock keyDots lastCodes at hA'
  rw [← hR', ← hA']
  simp (disch := omega) only [factor_read]
  rw [whole_read (G := partialMax x1 x5 R)]
  · have hF : ∀ h j, k0_pay136 (F := Ideal) A (foundFields A (partialMax x1 x5 R)) (foundZeros A (partialMax x1 x5 R))
        (ix2 h j) = A (ix2 h j) * pow (127#32 - fieldExp (k0_pay128 (F := Ideal) A (partialMax x1 x5 R) (ix2 h j))) := factor_at _ _
    unfold foundFields foundZeros at hF
    generalize k0_pay136 (F := Ideal) A
        (k0_pay132 (k0_pay128 A (partialMax x1 x5 R)) (k0_pay129 A (partialMax x1 x5 R)) (k0_pay130 A (partialMax x1 x5 R))
          (k0_pay131 A (partialMax x1 x5 R)))
        (k0_pay133 (k0_pay128 A (partialMax x1 x5 R)) (k0_pay129 A (partialMax x1 x5 R)) (k0_pay130 A (partialMax x1 x5 R))
          (k0_pay131 A (partialMax x1 x5 R)))
      = F at hF
    rw [kernelCode, ← kernelArg_at, ← entryAt_ratio, ← divisor_at, ← hR, ← hA, ← hF]
    show _ = codeOf x1 x5 R F (ix4 0 h j l)
    generalize ix4 (n0 := 1) (n1 := 6) (n2 := 512) (n3 := 256) 0 h j l = y
    canon_tiles x hx
    all_goals dsimp only [k0_pay1, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166]
    all_goals exact code_piece x1 x5 x7 R F hE (by omega) (by omega) (by omega) (by omega) _ _ _ x y (by omega) (by omega) (by omega)
  · intro y
    canon_tiles x hx
    all_goals dsimp only [k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127]
    all_goals exact mag_piece x1 x5 x7 R hE (by omega) (by omega) (by omega) (by omega) _ _ _ x y (by omega) (by omega)

end Cert.KernelRow

end
-- ==== Proof.Whole.lean ====
module

public import proofs.«01_k».proof.Proof.Rows
public import Idealize.ShloMosaic.Lib.Pointwise

/-! The three result arrays, as functions of the seven argument arrays: each element from the row it belongs to. -/

@[expose] public section

noncomputable section

namespace Cert.Rows

open Idealize.ShloMosaic

/-- The argument arrays of a step: queries, keys, values, log-decays, rates, codes, scales. -/
structure Args where
  q : (⟨4, ![40, 1, 6, 256]⟩ : Shape).Idx → EReal
  k : (⟨4, ![40, 1, 6, 256]⟩ : Shape).Idx → EReal
  v : (⟨4, ![40, 1, 6, 512]⟩ : Shape).Idx → EReal
  g : (⟨3, ![40, 1, 6]⟩ : Shape).Idx → EReal
  bt : (⟨3, ![40, 1, 6]⟩ : Shape).Idx → EReal
  c : (⟨4, ![40, 6, 512, 256]⟩ : Shape).Idx → EReal
  s : (⟨3, ![40, 6, 512]⟩ : Shape).Idx → EReal

namespace Args

variable (a : Args)

/-- The query of a head. -/
def qRow (b : Fin 40) (h : Fin 6) : Row := fun i => a.q (ix4 b 0 h i)
/-- The key of a head. -/
def kRow (b : Fin 40) (h : Fin 6) : Row := fun i => a.k (ix4 b 0 h i)
/-- A row of a head's state. -/
def cRow (b : Fin 40) (h : Fin 6) (j : Fin 512) : Row := fun i => a.c (ix4 b h j i)

/-- The first result. -/
def outputs : (⟨4, ![40, 1, 6, 512]⟩ : Shape).Idx → EReal := fun i =>
  output (a.qRow (i 0) (i 2)) (a.kRow (i 0) (i 2)) (a.cRow (i 0) (i 2) (i 3)) (a.g (ix3 (i 0) 0 (i 2)))
    (a.bt (ix3 (i 0) 0 (i 2))) (a.v (ix4 (i 0) 0 (i 2) (i 3))) (a.s (ix3 (i 0) (i 2) (i 3)))

/-- A function of a row at every row of the state. -/
def rows (f : Row → Row → EReal → EReal → EReal → EReal → EReal) : (⟨3, ![40, 6, 512]⟩ : Shape).Idx → EReal := fun i =>
  f (a.kRow (i 0) (i 1)) (a.cRow (i 0) (i 1) (i 2)) (a.g (ix3 (i 0) 0 (i 1))) (a.bt (ix3 (i 0) 0 (i 1)))
    (a.v (ix4 (i 0) 0 (i 1) (i 2))) (a.s (ix3 (i 0) (i 1) (i 2)))

/-- A row-valued function of a row at every row of the state. -/
def entries (f : Row → Row → EReal → EReal → EReal → EReal → Row) : (⟨4, ![40, 6, 512, 256]⟩ : Shape).Idx → EReal :=
  fun i => f (a.kRow (i 0) (i 1)) (a.cRow (i 0) (i 1) (i 2)) (a.g (ix3 (i 0) 0 (i 1))) (a.bt (ix3 (i 0) 0 (i 1)))
    (a.v (ix4 (i 0) 0 (i 1) (i 2))) (a.s (ix3 (i 0) (i 1) (i 2))) (i 3)

end Args

end Cert.Rows

end
-- ==== Proof.KernelArray.lean ====
module

public import proofs.«01_k».proof.Proof.KernelCode
public import proofs.«01_k».proof.Proof.Whole
public import Idealize.ShloMosaic.Lib.Claim
public import Idealize.ShloMosaic.Lib.Pipeline.ValueKit

/-! The kernel's result arrays after the run, as functions of the argument arrays. -/

@[expose] public section

set_option maxRecDepth 16384

noncomputable section

namespace Cert.KernelArray

open Idealize.ShloMosaic Idealize.ShloMosaic.TcCoe Idealize.SL.Sem
open Cert.KernelIdeal Cert.KernelIdeal.Gen
open Cert.Rows Cert.KernelRow

variable (m : (ℓ : Loc nD τ sig) → Buf (Elt Ideal) ℓ)

/-- The argument arrays in a memory. -/
def args (c : Dev nD) : Args where
  q := m ((c : Thread nD τ).loc main_arg0)
  k := m ((c : Thread nD τ).loc main_arg1)
  v := m ((c : Thread nD τ).loc main_arg2)
  g := m ((c : Thread nD τ).loc main_arg3)
  bt := m ((c : Thread nD τ).loc main_arg4)
  c := m ((c : Thread nD τ).loc main_arg5)
  s := m ((c : Thread nD τ).loc main_arg6)

/-- The codes the host hands the kernel are the argument's. -/
theorem codes_in (c : Dev nD) : V m c main_v7 = (args m c).c := by
  show StableHlo.after hostOps0 _ (Proc.devRef .tc main_v7) = _
  after_results
  rfl

/-- The host's identity matrix. -/
theorem eye_in (c : Dev nD) (i j : Fin 256) :
    (V m c main_v6 : Vec Ideal S256x256 .fp8e4m3) (ix2 i j) = if i = j then (1 : EReal) else 0 := by
  show StableHlo.after hostOps0 _ (Proc.devRef .tc main_v6) _ = _
  after_results
  pointwise
  have key : IntOp.cmpi .eq (IntOp.addi (BitVec.ofNat 32 i.val) 0#32) (BitVec.ofNat 32 j.val)
      = if i = j then 1#1 else 0#1 := by
    by_cases e : i = j
    · subst e
      simp [IntOp.cmpi, IntOp.addi]
    · have hi := i.isLt
      have hj := j.isLt
      have : BitVec.ofNat 32 i.val ≠ BitVec.ofNat 32 j.val := fun h => e (Fin.ext (by
        have := congrArg BitVec.toNat h
        simp only [BitVec.toNat_ofNat] at this
        omega))
      simp only [IntOp.cmpi, IntOp.addi, BitVec.add_zero, if_neg e]
      rw [beq_eq_false_iff_ne.mpr this]
      rfl
  rw [key]
  by_cases e : i = j
  · rw [if_pos e, if_pos e]
    show (((1#1 : BitVec 1).toNat : ℝ) : EReal) = 1
    norm_num
  · rw [if_neg e, if_neg e]
    show (((0#1 : BitVec 1).toNat : ℝ) : EReal) = 0
    norm_num

theorem e0 : ∀ t : Fin cfg0.N, win0_0.index t = ![(grid0.coords t 0).val, 0, 0, 0] :=
  (by decide +kernel : ∀ t : Fin grid0.N, _)
theorem e1 : ∀ t : Fin cfg0.N, win0_1.index t = ![(grid0.coords t 0).val, 0, 0, 0] :=
  (by decide +kernel : ∀ t : Fin grid0.N, _)
theorem e2 : ∀ t : Fin cfg0.N, win0_2.index t = ![(grid0.coords t 0).val, 0, 0, 0] :=
  (by decide +kernel : ∀ t : Fin grid0.N, _)
theorem e3 : ∀ t : Fin cfg0.N, win0_3.index t = ![(grid0.coords t 0).val, 0, 0] :=
  (by decide +kernel : ∀ t : Fin grid0.N, _)
theorem e4 : ∀ t : Fin cfg0.N, win0_4.index t = ![(grid0.coords t 0).val, 0, 0] :=
  (by decide +kernel : ∀ t : Fin grid0.N, _)
theorem e5 : ∀ t : Fin cfg0.N, win0_5.index t = ![(grid0.coords t 0).val, 0, 0, 0] :=
  (by decide +kernel : ∀ t : Fin grid0.N, _)
theorem e6 : ∀ t : Fin cfg0.N, win0_6.index t = ![(grid0.coords t 0).val, 0, 0] :=
  (by decide +kernel : ∀ t : Fin grid0.N, _)
theorem e7 : ∀ t : Fin cfg0.N, win0_7.index t = ![0, 0] :=
  (by decide +kernel : ∀ t : Fin grid0.N, _)
theorem e8 : ∀ t : Fin cfg0.N, win0_8.index t = ![(grid0.coords t 0).val, 0, 0, 0] :=
  (by decide +kernel : ∀ t : Fin grid0.N, _)
theorem e9 : ∀ t : Fin cfg0.N, win0_9.index t = ![(grid0.coords t 0).val, 0, 0, 0] :=
  (by decide +kernel : ∀ t : Fin grid0.N, _)
theorem e10 : ∀ t : Fin cfg0.N, win0_10.index t = ![(grid0.coords t 0).val, 0, 0] :=
  (by decide +kernel : ∀ t : Fin grid0.N, _)

/-- The batch element of a grid point. -/
def bOf (t : Fin cfg0.N) : Fin 40 := ⟨(grid0.coords t 0).val, (grid0.coords t 0).isLt⟩

theorem bOf_val (t : Fin cfg0.N) : (bOf t).val = (grid0.coords t 0).val := rfl

variable (c : Dev nD) (t : Fin cfg0.N)

/-- A point's blocks are the batch element's part of the arguments. -/
theorem q_blk (h : Fin 6) : headRow (iblk m c 0 t) h = (args m c).qRow (bOf t) h := by
  funext i
  show iblk m c 0 t (ix4 0 0 h i) = (V m c main_arg0) (ix4 (bOf t) 0 h i)
  blk_simp [iblk]
  congr 1
  blk_ext [e0, bOf_val]

theorem k_blk (h : Fin 6) : headRow (iblk m c 1 t) h = (args m c).kRow (bOf t) h := by
  funext i
  show iblk m c 1 t (ix4 0 0 h i) = (V m c main_arg1) (ix4 (bOf t) 0 h i)
  blk_simp [iblk]
  congr 1
  blk_ext [e1, bOf_val]

theorem v_blk (h : Fin 6) (j : Fin 512) : iblk m c 2 t (ix4 0 0 h j) = (args m c).v (ix4 (bOf t) 0 h j) := by
  show iblk m c 2 t (ix4 0 0 h j) = (V m c main_arg2) (ix4 (bOf t) 0 h j)
  blk_simp [iblk]
  congr 1
  blk_ext [e2, bOf_val]

theorem g_blk (h : Fin 6) : iblk m c 3 t (ix3 0 0 h) = (args m c).g (ix3 (bOf t) 0 h) := by
  show iblk m c 3 t (ix3 0 0 h) = (V m c main_arg3) (ix3 (bOf t) 0 h)
  blk_simp [iblk]
  congr 1
  blk_ext [e3, bOf_val]

theorem bt_blk (h : Fin 6) : iblk m c 4 t (ix3 0 0 h) = (args m c).bt (ix3 (bOf t) 0 h) := by
  show iblk m c 4 t (ix3 0 0 h) = (V m c main_arg4) (ix3 (bOf t) 0 h)
  blk_simp [iblk]
  congr 1
  blk_ext [e4, bOf_val]

theorem c_blk (h : Fin 6) (j : Fin 512) : codeRow (iblk m c 5 t) h j = (args m c).cRow (bOf t) h j := by
  funext i
  rw [Args.cRow, ← codes_in]
  show iblk m c 5 t (ix4 0 h j i) = (V m c main_v7) (ix4 (bOf t) h j i)
  blk_simp [iblk]
  congr 1
  blk_ext [e5, bOf_val]

theorem s_blk (h : Fin 6) (j : Fin 512) : iblk m c 6 t (ix3 0 h j) = (args m c).s (ix3 (bOf t) h j) := by
  show iblk m c 6 t (ix3 0 h j) = (V m c main_arg6) (ix3 (bOf t) h j)
  blk_simp [iblk]
  congr 1
  blk_ext [e6, bOf_val]

theorem eye_blk (i j : Fin 256) : iblk m c 7 t (ix2 i j) = if i = j then (1 : EReal) else 0 := by
  rw [← eye_in m c i j]
  blk_simp [iblk]
  congr 1
  blk_ext [e7]

/-- Where a point's block of the first result lies. -/
theorem emb8 (y : S1x1x6x512.Idx) :
    (win0_8.blk t).view.emb y = ix4 (n0 := 40) (n1 := 1) (n2 := 6) (n3 := 512) (bOf t) 0 (y 2) (y 3) := by
  blk_ext [e8, bOf_val]

/-- Of the second result. -/
theorem emb9 (y : S1x6x512x256.Idx) :
    (win0_9.blk t).view.emb y = ix4 (n0 := 40) (n1 := 6) (n2 := 512) (n3 := 256) (bOf t) (y 1) (y 2) (y 3) := by
  blk_ext [e9, bOf_val]

/-- Of the third result. -/
theorem emb10 (y : S1x6x512.Idx) :
    (win0_10.blk t).view.emb y = ix3 (n0 := 40) (n1 := 6) (n2 := 512) (bOf t) (y 1) (y 2) := by
  blk_ext [e10, bOf_val]

/-- What a point leaves in the first result's block. -/
theorem left_o (h : Fin 6) (j : Fin 512) :
    (outsAt0 m c t).1 (ix4 0 0 h j) = (args m c).outputs (ix4 (bOf t) 0 h j) := by
  dsimp only [outsAt0]
  rw [output_at, q_blk, k_blk, c_blk, g_blk, bt_blk, v_blk, s_blk]
  rfl

/-- In the second result's. -/
theorem left_codes (h : Fin 6) (j : Fin 512) (l : Fin 256) :
    (outsAt0 m c t).2.1 (ix4 0 h j l) = (args m c).entries kernelCode (ix4 (bOf t) h j l) := by
  dsimp only [outsAt0]
  rw [code_at (hE := eye_blk m c t), k_blk, c_blk, g_blk, bt_blk, v_blk, s_blk]
  rfl

/-- In the third result's. -/
theorem left_scales (h : Fin 6) (j : Fin 512) :
    (outsAt0 m c t).2.2 (ix3 0 h j) = (args m c).rows kernelScale (ix3 (bOf t) h j) := by
  dsimp only [outsAt0]
  rw [scale_at (hE := eye_blk m c t), k_blk, c_blk, g_blk, bt_blk, v_blk, s_blk]
  rfl

/-- The first result array. -/
theorem final_o : (dats m 0 c).arrAt 8 cfg0.N = (args m c).outputs := by
  refine (dats m 0 c).arrAt_eq_of_covers 8 _ (by decide +kernel) fun t hf y => ?_
  blk_simp
  rw [after0_8, emb8]
  have hy : ix4 (n0 := 1) (n1 := 1) (n2 := 6) (n3 := 512) 0 0 (y 2) (y 3) = y := by
    blk_ext
  have e := left_o m c t (y 2) (y 3)
  rwa [hy] at e

/-- The second. -/
theorem final_codes : (dats m 0 c).arrAt 9 cfg0.N = (args m c).entries kernelCode := by
  refine (dats m 0 c).arrAt_eq_of_covers 9 _ (by decide +kernel) fun t hf y => ?_
  blk_simp
  rw [after0_9, emb9]
  have hy : ix4 (n0 := 1) (n1 := 6) (n2 := 512) (n3 := 256) 0 (y 1) (y 2) (y 3) = y := by
    blk_ext
  have e := left_codes m c t (y 1) (y 2) (y 3)
  rwa [hy] at e

/-- The third. -/
theorem final_scales : (dats m 0 c).arrAt 10 cfg0.N = (args m c).rows kernelScale := by
  refine (dats m 0 c).arrAt_eq_of_covers 10 _ (by decide +kernel) fun t hf y => ?_
  blk_simp
  rw [after0_10, emb10]
  have hy : ix3 (n0 := 1) (n1 := 6) (n2 := 512) 0 (y 1) (y 2) = y := by
    blk_ext
  have e := left_scales m c t (y 1) (y 2)
  rwa [hy] at e

end Cert.KernelArray

end
-- ==== Proof.RefRow.lean ====
module

public import proofs.«01_k».proof.Proof.Gen.ReferenceIdeal.Frame
public import proofs.«01_k».proof.Proof.Rows
public import Idealize.ShloMosaic.Lib.Pipeline.ReadBack
public import Idealize.ShloMosaic.Lib.Pipeline.ValueKit.Acc
public import Idealize.ShloMosaic.Lib.Pointwise

/-! What the reference leaves at each index: the plain formulas of the rows it belongs to. -/

@[expose] public section

set_option maxRecDepth 16384

noncomputable section

namespace Cert.ReferenceRow

open Idealize.ShloMosaic Idealize.ShloMosaic.TcCoe
open Cert.ReferenceIdeal Cert.ReferenceIdeal.Gen
open Cert.Rows

/-- One head's key or query. -/
def headRow (x : Vec Ideal S40x1x6x256 .bf16) (b : Fin 40) (h : Fin 6) : Row := fun i => x (ix4 b 0 h i)

/-- One row of one head's state. -/
def codeRow (x : Vec Ideal S40x6x512x256 .fp8e4m3) (b : Fin 40) (h : Fin 6) (j : Fin 512) : Row :=
  fun i => x (ix4 b h j i)

/-- The reference's first result at an index is the row's output. -/
theorem output_at (x0 x1 : Vec Ideal S40x1x6x256 .bf16) (x2 : Vec Ideal S40x1x6x512 .bf16)
    (x3 x4 : Vec Ideal S40x1x6 .f32) (x5 : Vec Ideal S40x6x512x256 .fp8e4m3) (x6 : Vec Ideal S40x6x512 .f32)
    (b : Fin 40) (h : Fin 6) (j : Fin 512) :
    out0_7 x0 x1 x2 x3 x4 x5 x6 (ix4 b 0 h j) = output (headRow x0 b h) (headRow x1 b h) (codeRow x5 b h j)
      (x3 (ix3 b 0 h)) (x4 (ix3 b 0 h)) (x2 (ix4 b 0 h j)) (x6 (ix3 b h j)) := by
  unfold_out out0_7
  frame_out
  pointwise [k0_pay4, k0_pay12, k0_pay5, k0_pay7, k0_pay8, k0_pay16, k0_pay9, k0_pay10, k0_pay11, k0_pay6]
  rfl

/-- The state after the step. -/
def newState (x1 : Vec Ideal S40x1x6x256 .bf16) (x2 : Vec Ideal S40x1x6x512 .bf16)
    (x3 x4 : Vec Ideal S40x1x6 .f32) (x5 : Vec Ideal S40x6x512x256 .fp8e4m3) (x6 : Vec Ideal S40x6x512 .f32) :
    FVec Ideal S40x6x512x256 .f32 :=
  k0_pay13 (k0_pay6 x1) x6 (k0_pay9 x1 x5) x3 x4 x2 x5

/-- The state's rows after the step are the plain ones. -/
theorem new_at (x1 : Vec Ideal S40x1x6x256 .bf16) (x2 : Vec Ideal S40x1x6x512 .bf16)
    (x3 x4 : Vec Ideal S40x1x6 .f32) (x5 : Vec Ideal S40x6x512x256 .fp8e4m3) (x6 : Vec Ideal S40x6x512 .f32)
    (b : Fin 40) (h : Fin 6) (j : Fin 512) (i : Fin 256) :
    newState x1 x2 x3 x4 x5 x6 (ix4 b h j i) = newRow (headRow x1 b h) (codeRow x5 b h j)
      (x3 (ix3 b 0 h)) (x4 (ix3 b 0 h)) (x2 (ix4 b 0 h j)) (x6 (ix3 b h j)) i := by
  pointwise [newState, k0_pay13, k0_pay8, k0_pay9, k0_pay10, k0_pay11, k0_pay6]
  rfl

/-! Elementwise operations, at an index. -/

section Elementwise
variable {s : Shape} (x y : FVec Ideal s .f32) (i : s.Idx)

theorem exp2_apply : exp2 x i = Ideal.exp2 (x i) := rfl
theorem log_apply : log x i = Ideal.log (x i) := rfl
theorem floor_apply : floor x i = Ideal.liftRound Int.floor (x i) := rfl
theorem div_apply : divf x y i = Ideal.div (x i) (y i) := rfl
theorem mul_apply : mulf x y i = x i * y i := rfl
theorem add_apply : addf x y i = x i + y i := rfl
theorem sub_apply : subf x y i = x i - y i := rfl
theorem max_apply : maximumf x y i = max (x i) (y i) := rfl
theorem min_apply : minimumf x y i = min (x i) (y i) := rfl
theorem trunc_apply (h : FTy.bits .fp8e4m3 < FTy.bits .f32) : truncf .fp8e4m3 x h i = x i := rfl
theorem const_apply (w : BitVec 32) : broadcast s (Scalar.ofBits (F := Ideal) .f32 w) i = Ideal.ofBits .f32 w := rfl

end Elementwise

/-- A state's largest magnitudes, at an index. -/
theorem max_at (A : FVec Ideal S40x6x512x256 .f32) (b : Fin 40) (h : Fin 6) (j : Fin 512)
    {axes : List (Fin S40x6x512x256.rank)} {w : BitVec 32} (hr : S40x6x512x256.Reduces axes S40x6x512)
    (hφ : FKind.Formats .f32) (hacc : w = FKind.maximumf.neutral .f32 hφ) (ha : axes = [3]) (hw : w = 0xFF800000#32) :
    multiReduction .maximumf axes S40x6x512 A w hr hφ hacc (ix3 b h j) = Finset.univ.sup fun i => A (ix4 b h j i) := by
  subst ha hw
  pointwise
  exact fold_max _

/-- The select that gives small rows the exponent 0, at an index. -/
theorem small_at (x y : FVec Ideal S40x6x512 .f32) (b : Fin 40) (h : Fin 6) (j : Fin 512) :
    select (cmpf .olt x (broadcast S40x6x512 (Scalar.ofBits (F := Ideal) .f32 0x00800000#32)))
      (broadcast S40x6x512 (Scalar.ofBits (F := Ideal) .f32 0x00000000#32)) y (ix3 b h j)
      = if x (ix3 b h j) < leastNormal then 0 else y (ix3 b h j) := by
  pointwise

/-- The exponents chosen for rows whose largest magnitudes are `M`. -/
def chosen (M : FVec Ideal S40x6x512 .f32) : FVec Ideal S40x6x512 .f32 :=
  select (cmpf .olt (mulf M (broadcast S40x6x512 (Scalar.ofBits .f32 0x3B124925#32)))
      (broadcast S40x6x512 (Scalar.ofBits .f32 0x00800000#32)))
    (broadcast S40x6x512 (Scalar.ofBits .f32 0x00000000#32))
    (addf (floor (divf (log (mulf M (broadcast S40x6x512 (Scalar.ofBits .f32 0x3B124925#32))))
      (log (broadcast S40x6x512 (Scalar.ofBits .f32 0x40000000#32)))))
      (broadcast S40x6x512 (Scalar.ofBits .f32 0x3F800000#32)))

/-- They are the plain ones. -/
theorem chosen_at (M : FVec Ideal S40x6x512 .f32) (b : Fin 40) (h : Fin 6) (j : Fin 512) :
    chosen M (ix3 b h j) = plainExp (M (ix3 b h j) * inv448) := by
  rw [chosen, small_at, plainExp, add_apply, floor_apply, div_apply, log_apply, log_apply, mul_apply, const_apply,
    const_apply, const_apply]

/-- The exponents chosen for the rows of a state whose magnitudes are `A`. -/
theorem exp_at (A : FVec Ideal S40x6x512x256 .f32) (b : Fin 40) (h : Fin 6) (j : Fin 512) :
    k0_pay1 A (ix3 b h j) = plainExp ((Finset.univ.sup fun i => A (ix4 b h j i)) * inv448) := by
  rw [← max_at A b h j reduces_S40x6x512x256_S40x6x512 (.inl rfl) rfl rfl rfl, ← chosen_at]
  rfl

/-- A row's number spread over the row, at an index. -/
theorem spread_at (x : FVec Ideal S40x6x512 .f32) (b : Fin 40) (h : Fin 6) (j : Fin 512) (i : Fin 256) :
    broadcastTo S40x6x512x256 (shapeCast S40x6x512x1 x shapeCasts_S40x6x512_S40x6x512x1)
      broadcasts_S40x6x512x1_S40x6x512x256 (ix4 b h j i) = x (ix3 b h j) := by
  pointwise

/-- The scales chosen for the rows of a state whose magnitudes are `A`. -/
theorem scales_at (A : FVec Ideal S40x6x512x256 .f32) (b : Fin 40) (h : Fin 6) (j : Fin 512) :
    k0_pay3 A (ix3 b h j) = Ideal.exp2 (plainExp ((Finset.univ.sup fun i => A (ix4 b h j i)) * inv448)) := by
  rw [← exp_at A b h j]
  unfold k0_pay3
  generalize k0_pay1 A = E
  exact exp2_apply E _

/-- The codes of a state `B` whose rows have the exponents `E`. -/
def coded (B : FVec Ideal S40x6x512x256 .f32) (E : FVec Ideal S40x6x512 .f32) : FVec Ideal S40x6x512x256 .fp8e4m3 :=
  truncf .fp8e4m3 (minimumf (broadcast S40x6x512x256 (Scalar.ofBits .f32 0x43E00000#32))
    (maximumf (broadcast S40x6x512x256 (Scalar.ofBits .f32 0xC3E00000#32))
      (mulf B (broadcastTo S40x6x512x256 (shapeCast S40x6x512x1
        (exp2 (subf (broadcast S40x6x512 (Scalar.ofBits .f32 0x00000000#32)) E)) shapeCasts_S40x6x512_S40x6x512x1)
        broadcasts_S40x6x512x1_S40x6x512x256)))) bitsLt_fp8e4m3_f32

/-- They are the plain ones. -/
theorem coded_at (B : FVec Ideal S40x6x512x256 .f32) (E : FVec Ideal S40x6x512 .f32) (b : Fin 40) (h : Fin 6)
    (j : Fin 512) (i : Fin 256) :
    coded B E (ix4 b h j i) = min top448 (max bot448 (B (ix4 b h j i) * Ideal.exp2 (0 - E (ix3 b h j)))) := by
  rw [coded, trunc_apply, min_apply, max_apply, mul_apply, spread_at, exp2_apply, sub_apply, const_apply, const_apply,
    const_apply, show Ideal.ofBits .f32 0x00000000#32 = 0 from Ideal.ofBits_zero .f32]

/-- The codes of a state `B` at the exponents its magnitudes `A` choose. -/
theorem clip_at (B A : FVec Ideal S40x6x512x256 .f32) (b : Fin 40) (h : Fin 6) (j : Fin 512) (i : Fin 256) :
    k0_pay2 B A (ix4 b h j i) = min top448 (max bot448 (B (ix4 b h j i) *
      Ideal.exp2 (0 - plainExp ((Finset.univ.sup fun i => A (ix4 b h j i)) * inv448)))) := by
  rw [← exp_at A b h j, ← coded_at]
  rfl

/-- The magnitudes of a state. -/
theorem mag_at (A : FVec Ideal S40x6x512x256 .f32) (b : Fin 40) (h : Fin 6) (j : Fin 512) (i : Fin 256) :
    absf A (ix4 b h j i) = mag (A (ix4 b h j i)) := rfl

/-- The reference's third result at an index is the row's plain scale. -/
theorem scale_at (x0 x1 : Vec Ideal S40x1x6x256 .bf16) (x2 : Vec Ideal S40x1x6x512 .bf16)
    (x3 x4 : Vec Ideal S40x1x6 .f32) (x5 : Vec Ideal S40x6x512x256 .fp8e4m3) (x6 : Vec Ideal S40x6x512 .f32)
    (b : Fin 40) (h : Fin 6) (j : Fin 512) :
    out0_9 x0 x1 x2 x3 x4 x5 x6 (ix3 b h j) = plainScale (headRow x1 b h) (codeRow x5 b h j)
      (x3 (ix3 b 0 h)) (x4 (ix3 b 0 h)) (x2 (ix4 b 0 h j)) (x6 (ix3 b h j)) := by
  unfold_out out0_9
  frame_out
  change k0_pay3 (absf (newState x1 x2 x3 x4 x5 x6)) (ix3 b h j) = _
  rw [scales_at]
  simp only [mag_at, new_at, plainScale, amax]

/-- The reference's second result at an index is the row's plain code. -/
theorem code_at (x0 x1 : Vec Ideal S40x1x6x256 .bf16) (x2 : Vec Ideal S40x1x6x512 .bf16)
    (x3 x4 : Vec Ideal S40x1x6 .f32) (x5 : Vec Ideal S40x6x512x256 .fp8e4m3) (x6 : Vec Ideal S40x6x512 .f32)
    (b : Fin 40) (h : Fin 6) (j : Fin 512) (i : Fin 256) :
    out0_8 x0 x1 x2 x3 x4 x5 x6 (ix4 b h j i) = plainCode (headRow x1 b h) (codeRow x5 b h j)
      (x3 (ix3 b 0 h)) (x4 (ix3 b 0 h)) (x2 (ix4 b 0 h j)) (x6 (ix3 b h j)) i := by
  unfold_out out0_8
  frame_out
  change k0_pay2 (newState x1 x2 x3 x4 x5 x6) (absf (newState x1 x2 x3 x4 x5 x6)) (ix4 b h j i) = _
  rw [clip_at]
  simp only [mag_at, new_at, plainCode, amax]

end Cert.ReferenceRow

end
-- ==== Proof.RefArray.lean ====
module

public import proofs.«01_k».proof.Proof.RefRow
public import proofs.«01_k».proof.Proof.Whole
public import Idealize.ShloMosaic.Lib.Claim
public import Idealize.ShloMosaic.Lib.Pipeline.ValueKit

/-! The reference's result arrays after the run, as functions of the argument arrays. -/

@[expose] public section

set_option maxRecDepth 16384

noncomputable section

namespace Cert.ReferenceArray

open Idealize.ShloMosaic Idealize.ShloMosaic.TcCoe Idealize.SL.Sem
open Cert.ReferenceIdeal Cert.ReferenceIdeal.Gen
open Cert.Rows Cert.ReferenceRow

variable (m : (ℓ : Loc nD τ sig) → Buf (Elt Ideal) ℓ) (ρ : Dev nD → PrngReg)

/-- The argument arrays in a memory. -/
def args (c : Dev nD) : Args where
  q := m ((c : Thread nD τ).loc main_arg0)
  k := m ((c : Thread nD τ).loc main_arg1)
  v := m ((c : Thread nD τ).loc main_arg2)
  g := m ((c : Thread nD τ).loc main_arg3)
  bt := m ((c : Thread nD τ).loc main_arg4)
  c := m ((c : Thread nD τ).loc main_arg5)
  s := m ((c : Thread nD τ).loc main_arg6)

variable (c : Dev nD) (t : Fin cfg0.N)

/-- The codes the host hands the reference are the argument's. -/
theorem codes_in : V m c main_v0 = (args m c).c := by
  show StableHlo.after hostOps0 _ (Proc.devRef .tc main_v0) = _
  after_results
  rfl

theorem e0 : ∀ t : Fin cfg0.N, win0_0.index t = ![0, 0, 0, 0] := (by decide +kernel : ∀ t : Fin grid0.N, _)
theorem e1 : ∀ t : Fin cfg0.N, win0_1.index t = ![0, 0, 0, 0] := (by decide +kernel : ∀ t : Fin grid0.N, _)
theorem e2 : ∀ t : Fin cfg0.N, win0_2.index t = ![0, 0, 0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![0, 0, 0, 0] := (by decide +kernel : ∀ t : Fin grid0.N, _)
theorem e6 : ∀ t : Fin cfg0.N, win0_6.index t = ![0, 0, 0] := (by decide +kernel : ∀ t : Fin grid0.N, _)
theorem e7 : ∀ t : Fin cfg0.N, win0_7.index t = ![0, 0, 0, 0] := (by decide +kernel : ∀ t : Fin grid0.N, _)
theorem e8 : ∀ t : Fin cfg0.N, win0_8.index t = ![0, 0, 0, 0] := (by decide +kernel : ∀ t : Fin grid0.N, _)
theorem e9 : ∀ t : Fin cfg0.N, win0_9.index t = ![0, 0, 0] := (by decide +kernel : ∀ t : Fin grid0.N, _)

/-- The one point's blocks are the arguments. -/
theorem q_blk : iblk m c 0 t = (args m c).q := by
  show iblk m c 0 t = V m c main_arg0
  funext y
  blk_simp [iblk]
  congr 1
  blk_ext [e0]

theorem k_blk : iblk m c 1 t = (args m c).k := by
  show iblk m c 1 t = V m c main_arg1
  funext y
  blk_simp [iblk]
  congr 1
  blk_ext [e1]

theorem v_blk : iblk m c 2 t = (args m c).v := by
  show iblk m c 2 t = V m c main_arg2
  funext y
  blk_simp [iblk]
  congr 1
  blk_ext [e2]

theorem g_blk : iblk m c 3 t = (args m c).g := by
  show iblk m c 3 t = V m c main_arg3
  funext y
  blk_simp [iblk]
  congr 1
  blk_ext [e3]

theorem bt_blk : iblk m c 4 t = (args m c).bt := by
  show iblk m c 4 t = V m c main_arg4
  funext y
  blk_simp [iblk]
  congr 1
  blk_ext [e4]

theorem c_blk : iblk m c 5 t = (args m c).c := by
  rw [← codes_in]
  funext y
  blk_simp [iblk]
  congr 1
  blk_ext [e5]

theorem s_blk : iblk m c 6 t = (args m c).s := by
  show iblk m c 6 t = V m c main_arg6
  funext y
  blk_simp [iblk]
  congr 1
  blk_ext [e6]

/-- The first result array. -/
theorem final_o : (dats m 0 c).arrAt 7 cfg0.N = (args m c).outputs := by
  refine (dats m 0 c).arrAt_eq_of_covers 7 _ (by decide +kernel) fun t hf y => ?_
  blk_simp
  have hy : (win0_7.blk t).view.emb y = ix4 (n0 := 40) (n1 := 1) (n2 := 6) (n3 := 512) (y 0) 0 (y 2) (y 3) := by
    blk_ext [e7]
  have hy' : ix4 (n0 := 40) (n1 := 1) (n2 := 6) (n3 := 512) (y 0) 0 (y 2) (y 3) = y := by
    blk_ext
  rw [after0_7, hy, q_blk, k_blk, v_blk, g_blk, bt_blk, c_blk, s_blk]
  exact (congrArg _ hy'.symm).trans (ReferenceRow.output_at (args m c).q (args m c).k (args m c).v (args m c).g (args m c).bt (args m c).c
    (args m c).s (y 0) (y 2) (y 3))

/-- The second result array. -/
theorem final_codes : (dats m 0 c).arrAt 8 cfg0.N = (args m c).entries plainCode := by
  refine (dats m 0 c).arrAt_eq_of_covers 8 _ (by decide +kernel) fun t hf y => ?_
  blk_simp
  have hy : (win0_8.blk t).view.emb y = ix4 (n0 := 40) (n1 := 6) (n2 := 512) (n3 := 256) (y 0) (y 1) (y 2) (y 3) := by
    blk_ext [e8]
  have hy' : ix4 (n0 := 40) (n1 := 6) (n2 := 512) (n3 := 256) (y 0) (y 1) (y 2) (y 3) = y := by
    blk_ext
  rw [after0_8, hy, q_blk, k_blk, v_blk, g_blk, bt_blk, c_blk, s_blk]
  exact (congrArg _ hy'.symm).trans (ReferenceRow.code_at (args m c).q (args m c).k (args m c).v (args m c).g (args m c).bt (args m c).c
    (args m c).s (y 0) (y 1) (y 2) (y 3))

/-- The third result array. -/
theorem final_scales : (dats m 0 c).arrAt 9 cfg0.N = (args m c).rows plainScale := by
  refine (dats m 0 c).arrAt_eq_of_covers 9 _ (by decide +kernel) fun t hf y => ?_
  blk_simp
  have hy : (win0_9.blk t).view.emb y = ix3 (n0 := 40) (n1 := 6) (n2 := 512) (y 0) (y 1) (y 2) := by
    blk_ext [e9]
  have hy' : ix3 (n0 := 40) (n1 := 6) (n2 := 512) (y 0) (y 1) (y 2) = y := by
    blk_ext
  rw [after0_9, hy, q_blk, k_blk, v_blk, g_blk, bt_blk, c_blk, s_blk]
  exact (congrArg _ hy'.symm).trans (ReferenceRow.scale_at (args m c).q (args m c).k (args m c).v (args m c).g (args m c).bt (args m c).c
    (args m c).s (y 0) (y 1) (y 2))

/-- The run: the results at those arrays, the arguments unchanged. -/
theorem run : θ_run defs (onTc (τ := τ) (main (F := Ideal))) ⟨m, fun _ => 0, ρ⟩ fun r => ∀ c : Dev nD,
      r.2.mem ((c : Thread nD τ).loc main_v1_0) = (args m c).outputs
      ∧ r.2.mem ((c : Thread nD τ).loc main_v1_1) = (args m c).entries plainCode
      ∧ r.2.mem ((c : Thread nD τ).loc main_v1_2) = (args m c).rows plainScale
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final_o m c), ((h c).1 8).trans (final_codes m c),
      ((h c).1 9).trans (final_scales m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c)))⟩)
    (run_main m ρ)

end Cert.ReferenceArray

end
-- ==== Proof.Exponent.lean ====
/-
  THE EXPONENT SEARCH IS ⌊log₂⌋ (hand-written, untrusted): for a real `0 ≤ x < 2¹²⁶` the kernel's `Rows.fieldExp` and the plain
  `Rows.plainExp` are the same integer, and the two words the kernel shifts it into are the floats `exp2 e` and `exp2 (−e)`.
-/
module

public import proofs.«01_k».proof.Proof.Rows

@[expose] public section

noncomputable section

namespace Cert.Rows

open Idealize.ShloMosaic

/-- The fields of the word `n << 23`, `n < 256`: sign clear, exponent `n`, fraction 0. -/
theorem fields : ∀ n : Fin 256,
    ((BitVec.ofNat 32 n.val <<< 23).extractLsb' 31 1 == 1#1) = false
      ∧ ((BitVec.ofNat 32 n.val <<< 23).extractLsb' 23 8).toNat = n.val
      ∧ ((BitVec.ofNat 32 n.val <<< 23).extractLsb' 0 23).toNat = 0 := by decide +kernel

/-- The float with exponent field `n` and nothing else, by its exponent field. -/
theorem pow_cases (n : ℕ) (h : n < 256) : pow (BitVec.ofNat 32 n)
    = if n = 255 then ⊤ else if n = 0 then 0 else (((2 : ℝ) ^ ((n : ℤ) - 127) : ℝ) : EReal) := by
  have hf := fields ⟨n, h⟩
  have h1 := hf.1
  have h2 := hf.2.1
  have h3 := hf.2.2
  unfold pow
  generalize BitVec.ofNat 32 n <<< 23 = w at h1 h2 h3 ⊢
  unfold Ideal.ofBits Ideal.ieee
  simp only [h1, h2, h3]
  by_cases c1 : n = 255
  · subst c1; simp
  · by_cases c2 : n = 0
    · subst c2; simp
    · have e : (2 : ℝ) ^ ((n : ℤ) - 127) = 8388608 * 2 ^ ((n : ℤ) - 127 - 23) := by
        rw [show (8388608 : ℝ) = 2 ^ 23 by norm_num, ← zpow_natCast, ← zpow_add₀ (by norm_num)]
        congr 1; push_cast; ring
      simp [c1, c2, e]

/-- The float with exponent field 0 is 0. -/
theorem pow_zero' : pow (BitVec.ofNat 32 0) = 0 := by
  rw [pow_cases 0 (by omega), if_neg (by omega), if_pos rfl]

/-- The float with exponent field `1 ≤ n ≤ 254` is `2^(n − 127)`. -/
theorem pow_eq (n : ℕ) (h0 : 1 ≤ n) (h : n ≤ 254) : pow (BitVec.ofNat 32 n) = (((2 : ℝ) ^ ((n : ℤ) - 127) : ℝ) : EReal) := by
  rw [pow_cases n (by omega), if_neg (by omega), if_neg (by omega)]

/-- The float with exponent field 255 is the infinity. -/
theorem pow_top : pow (BitVec.ofNat 32 255) = ⊤ := by
  rw [pow_cases 255 (by omega), if_pos rfl]

/-- One search step keeps the invariant: the float found is at most `x`, and the next multiple of the step is above `x` unless it
    is past the last field. -/
theorem step_inv (x : EReal) (b n : ℕ) (hb : n + 2 * b ≤ 256) (hl : pow (BitVec.ofNat 32 n) ≤ x)
    (hu : n + 2 * b = 256 ∨ x < pow (BitVec.ofNat 32 (n + 2 * b))) :
    ∃ n', step x (BitVec.ofNat 32 b) (BitVec.ofNat 32 n) = BitVec.ofNat 32 n' ∧ n' + b ≤ 256
      ∧ pow (BitVec.ofNat 32 n') ≤ x ∧ (n' + b = 256 ∨ x < pow (BitVec.ofNat 32 (n' + b))) := by
  have e : BitVec.ofNat 32 n + BitVec.ofNat 32 b = BitVec.ofNat 32 (n + b) := (BitVec.ofNat_add n b).symm
  unfold step
  rw [e]
  by_cases h : pow (BitVec.ofNat 32 (n + b)) ≤ x
  · refine ⟨n + b, if_pos h, by omega, h, ?_⟩
    have e2 : n + b + b = n + 2 * b := by omega
    rw [e2]; exact hu
  · exact ⟨n, if_neg h, by omega, hl, .inr (not_le.mp h)⟩

/-- The search ends at the field `n` with `pow n ≤ x < pow (n + 1)`. -/
theorem field_spec (x : EReal) (hx : 0 ≤ x) : ∃ n : ℕ, field x = BitVec.ofNat 32 n ∧ n + 1 ≤ 256
    ∧ pow (BitVec.ofNat 32 n) ≤ x ∧ (n + 1 = 256 ∨ x < pow (BitVec.ofNat 32 (n + 1))) := by
  obtain ⟨n1, e1, b1, l1, u1⟩ := step_inv x 128 0 (by omega) (by rw [pow_zero']; exact hx) (.inl rfl)
  obtain ⟨n2, e2, b2, l2, u2⟩ := step_inv x 64 n1 (by omega) l1 u1
  obtain ⟨n3, e3, b3, l3, u3⟩ := step_inv x 32 n2 (by omega) l2 u2
  obtain ⟨n4, e4, b4, l4, u4⟩ := step_inv x 16 n3 (by omega) l3 u3
  obtain ⟨n5, e5, b5, l5, u5⟩ := step_inv x 8 n4 (by omega) l4 u4
  obtain ⟨n6, e6, b6, l6, u6⟩ := step_inv x 4 n5 (by omega) l5 u5
  obtain ⟨n7, e7, b7, l7, u7⟩ := step_inv x 2 n6 (by omega) l6 u6
  obtain ⟨n8, e8, b8, l8, u8⟩ := step_inv x 1 n7 (by omega) l7 u7
  refine ⟨n8, ?_, b8, l8, u8⟩
  unfold field
  show step x (BitVec.ofNat 32 1) (step x (BitVec.ofNat 32 2) (step x (BitVec.ofNat 32 4) (step x (BitVec.ofNat 32 8)
    (step x (BitVec.ofNat 32 16) (step x (BitVec.ofNat 32 32) (step x (BitVec.ofNat 32 64) (step x (BitVec.ofNat 32 128)
      (BitVec.ofNat 32 0)))))))) = _
  rw [e1, e2, e3, e4, e5, e6, e7, e8]

theorem leastNormal_eq : leastNormal = (((2 : ℝ) ^ (-126 : ℤ) : ℝ) : EReal) := by
  have h := pow_eq 1 le_rfl (by omega)
  have e : pow (BitVec.ofNat 32 1) = leastNormal := rfl
  rw [← e, h]; norm_num

theorem one_eq : one = ((1 : ℝ) : EReal) := by
  have h := pow_eq 127 (by omega) (by omega)
  have e : pow (BitVec.ofNat 32 127) = one := rfl
  rw [← e, h]; norm_num

theorem two_eq : two = ((2 : ℝ) : EReal) := by
  have h := pow_eq 128 (by omega) (by omega)
  have e : pow (BitVec.ofNat 32 128) = two := rfl
  rw [← e, h]; norm_num

theorem exp2_int (z : ℤ) : Ideal.exp2 ((z : ℝ) : EReal) = (((2 : ℝ) ^ z : ℝ) : EReal) := by
  show ((Real.rpow 2 (z : ℝ) : ℝ) : EReal) = _
  congr 1
  exact Real.rpow_intCast 2 z

/-- THE EXPONENT: for a real `0 ≤ x < 2¹²⁶` the plain quantiser's exponent is an integer `e`, and the kernel's two words are the
    floats `2^e` and `2^(−e)`. -/
theorem exponent (x : ℝ) (h0 : 0 ≤ x) (h1 : x < 2 ^ (126 : ℤ)) : ∃ e : ℤ, plainExp (x : EReal) = ((e : ℝ) : EReal)
    ∧ pow (fieldExp (x : EReal) + 127#32) = (((2 : ℝ) ^ e : ℝ) : EReal)
    ∧ pow (127#32 - fieldExp (x : EReal)) = (((2 : ℝ) ^ (-e) : ℝ) : EReal) := by
  obtain ⟨n, hn, hle, hl, hu⟩ := field_spec (x : EReal) (by exact_mod_cast h0)
  have hn253 : n < 253 := by
    by_contra hcon
    have h2 : n = 255 ∨ n ≤ 254 := by omega
    rcases h2 with rfl | h2
    · rw [pow_top] at hl
      exact absurd hl (not_le.mpr (EReal.coe_lt_top x))
    · rw [pow_eq n (by omega) h2, EReal.coe_le_coe_iff] at hl
      have h3 : (2 : ℝ) ^ (126 : ℤ) ≤ 2 ^ ((n : ℤ) - 127) := zpow_le_zpow_right₀ (by norm_num) (by omega)
      exact absurd (lt_of_lt_of_le h1 (h3.trans hl)) (lt_irrefl x)
  have hu' : (x : EReal) < pow (BitVec.ofNat 32 (n + 1)) := hu.resolve_left (by omega)
  rw [pow_eq (n + 1) (by omega) (by omega), EReal.coe_lt_coe_iff] at hu'
  by_cases hz : n = 0
  · subst hz
    have hx : (x : EReal) < leastNormal := by
      rw [leastNormal_eq, EReal.coe_lt_coe_iff]
      have : (2 : ℝ) ^ (((0 + 1 : ℕ) : ℤ) - 127) = 2 ^ (-126 : ℤ) := by norm_num
      rw [this] at hu'; exact hu'
    refine ⟨0, ?_, ?_, ?_⟩
    · unfold plainExp; rw [if_pos hx]; simp
    · unfold fieldExp; rw [hn, if_pos (by rfl)]
      show pow (BitVec.ofNat 32 127) = _
      rw [pow_eq 127 (by omega) (by omega)]; norm_num
    · unfold fieldExp; rw [hn, if_pos (by rfl)]
      show pow (BitVec.ofNat 32 127) = _
      rw [pow_eq 127 (by omega) (by omega)]; norm_num
  · rw [pow_eq n (by omega) (by omega), EReal.coe_le_coe_iff] at hl
    have hxpos : 0 < x := lt_of_lt_of_le (zpow_pos (by norm_num) _) hl
    have hx : ¬ (x : EReal) < leastNormal := by
      rw [leastNormal_eq, EReal.coe_lt_coe_iff, not_lt]
      refine le_trans ?_ hl
      exact zpow_le_zpow_right₀ (by norm_num) (by omega)
    have hlog2 : 0 < Real.log 2 := Real.log_pos (by norm_num)
    have hfloor : ⌊Real.log x * (Real.log 2)⁻¹⌋ = (n : ℤ) - 127 := by
      rw [← div_eq_mul_inv, Int.floor_eq_iff]
      constructor
      · rw [le_div_iff₀ hlog2, ← Real.log_zpow]
        exact Real.log_le_log (zpow_pos (by norm_num) _) hl
      · rw [div_lt_iff₀ hlog2]
        have h3 := Real.log_lt_log hxpos hu'
        rw [Real.log_zpow] at h3
        push_cast at h3 ⊢
        have e3 : ((n : ℝ) - 127 + 1) = (n + 1 - 127) := by ring
        rw [e3]; exact h3
    have hne : BitVec.ofNat 32 n ≠ 0#32 := by
      intro h
      have := congrArg BitVec.toNat h
      simp only [BitVec.toNat_ofNat] at this
      rw [Nat.mod_eq_of_lt (by omega)] at this
      exact hz this
    refine ⟨(n : ℤ) - 126, ?_, ?_, ?_⟩
    · unfold plainExp
      rw [if_neg hx, two_eq, one_eq]
      have hlx : Ideal.log (x : EReal) = ((Real.log x : ℝ) : EReal) := by
        show (if x ≤ 0 then (⊥ : EReal) else _) = _
        rw [if_neg (not_le.mpr hxpos)]
      have hl2 : Ideal.log ((2 : ℝ) : EReal) = ((Real.log 2 : ℝ) : EReal) := by
        show (if (2 : ℝ) ≤ 0 then (⊥ : EReal) else _) = _
        rw [if_neg (by norm_num)]
      rw [hlx, hl2]
      unfold Ideal.div
      rw [if_neg (by exact_mod_cast hlog2.ne'), ← EReal.coe_inv, ← EReal.coe_mul]
      show (((⌊Real.log x * (Real.log 2)⁻¹⌋ : ℝ) : EReal)) + _ = _
      rw [hfloor, ← EReal.coe_add]
      congr 1; push_cast; ring
    · unfold fieldExp
      rw [hn, if_neg hne]
      have e : BitVec.ofNat 32 n - 126#32 + 127#32 = BitVec.ofNat 32 (n + 1) := by
        rw [BitVec.ofNat_add]
        generalize BitVec.ofNat 32 n = y
        have : 127#32 = 126#32 + 1#32 := by decide
        rw [this, ← BitVec.add_assoc, BitVec.sub_add_cancel]
      rw [e, pow_eq (n + 1) (by omega) (by omega)]
      congr 2; push_cast; ring
    · unfold fieldExp
      rw [hn, if_neg hne]
      have e : 127#32 - (BitVec.ofNat 32 n - 126#32) = BitVec.ofNat 32 (253 - n) := by
        apply BitVec.eq_of_toNat_eq
        simp only [BitVec.toNat_sub, BitVec.toNat_ofNat]
        omega
      rw [e, pow_eq (253 - n) (by omega) (by omega)]
      rw [show ((253 - n : ℕ) : ℤ) - 127 = -((n : ℤ) - 126) by omega]

end Cert.Rows

end
-- ==== Proof.RowEq.lean ====
/-
  THE TWO QUANTISERS AGREE ON A ROW IN RANGE (hand-written, untrusted): `InRange` makes everything a row is computed from a real
  number and the kernel's divisor the decayed scale, so that divisor times scaled row is the new row, the two exponents have the
  same argument, and scale and codes are the same.
-/
module

public import proofs.«01_k».proof.Proof.Exponent

@[expose] public section

noncomputable section

namespace Cert.Rows

open Idealize.ShloMosaic

/-! ### The constants -/

theorem top448_eq : top448 = ((448 : ℝ) : EReal) := by
  unfold top448 Ideal.ofBits Ideal.ieee
  simp
  rw [← EReal.coe_mul]
  norm_num

theorem inv448_real : ∃ w : ℝ, inv448 = (w : EReal) ∧ 0 ≤ w := by
  unfold inv448 Ideal.ofBits Ideal.ieee
  simp
  refine ⟨_, rfl, by positivity⟩

theorem eps_real : ∃ w : ℝ, eps = (w : EReal) ∧ 0 < w := by
  unfold eps Ideal.ofBits Ideal.ieee
  simp
  refine ⟨_, rfl, by positivity⟩

theorem tiny_eq : tiny = (((2 : ℝ) ^ (-40 : ℤ) : ℝ) : EReal) := by
  have h := pow_eq 87 (by omega) (by omega)
  have e : pow (BitVec.ofNat 32 87) = tiny := rfl
  rw [← e, h]; norm_num

theorem two40_eq : Ideal.ofBits .f32 0x53800000#32 = (((2 : ℝ) ^ (40 : ℤ) : ℝ) : EReal) := by
  have h := pow_eq 167 (by omega) (by omega)
  have e : pow (BitVec.ofNat 32 167) = Ideal.ofBits .f32 0x53800000#32 := rfl
  rw [← e, h]; norm_num

theorem two126_eq : Ideal.ofBits .f32 0x7E800000#32 = (((2 : ℝ) ^ (126 : ℤ) : ℝ) : EReal) := by
  have h := pow_eq 253 (by omega) (by omega)
  have e : pow (BitVec.ofNat 32 253) = Ideal.ofBits .f32 0x7E800000#32 := rfl
  rw [← e, h]; norm_num

theorem inf_eq : Ideal.ofBits .f32 0x7F800000#32 = (⊤ : EReal) := by
  unfold Ideal.ofBits Ideal.ieee
  simp

/-! ### Magnitudes of real numbers -/

theorem mag_coe (r : ℝ) : mag (r : EReal) = ((|r| : ℝ) : EReal) := by
  unfold mag
  rw [← EReal.coe_neg, abs_eq_max_neg]
  exact (EReal.coe_strictMono.monotone.map_max).symm

/-- What has a real bound on its magnitude is real. -/
theorem real_of_mag (x : EReal) (r : ℝ) (h : mag x ≤ (r : EReal)) : ∃ y : ℝ, x = (y : EReal) ∧ |y| ≤ r := by
  induction x with
  | bot => exact absurd ((le_max_right _ _).trans h) (not_le.mpr (by simp))
  | top => exact absurd ((le_max_left _ _).trans h) (not_le.mpr (by simp))
  | coe y => rw [mag_coe, EReal.coe_le_coe_iff] at h; exact ⟨y, rfl, h⟩

/-- What has a magnitude below infinity is real. -/
theorem real_of_mag_top (x : EReal) (h : mag x < ⊤) : ∃ y : ℝ, x = (y : EReal) := by
  induction x with
  | bot => exact absurd h (by simp [mag])
  | top => exact absurd h (by simp [mag])
  | coe y => exact ⟨y, rfl⟩

/-- The largest magnitude of a real row is the real number that bounds the row and is attained. -/
theorem amax_eq (r : Fin 256 → ℝ) (m : ℝ) (h : ∀ i, |r i| ≤ m) (h' : ∃ i, |r i| = m) :
    amax (fun i => (r i : EReal)) = (m : EReal) := by
  obtain ⟨i, hi⟩ := h'
  unfold amax
  refine le_antisymm (Finset.sup_le fun j _ => ?_) ?_
  · rw [mag_coe, EReal.coe_le_coe_iff]; exact h j
  · refine le_trans (le_of_eq ?_) (Finset.le_sup (Finset.mem_univ i))
    rw [mag_coe, hi]

theorem max_exists (r : Fin 256 → ℝ) : ∃ m : ℝ, 0 ≤ m ∧ (∀ i, |r i| ≤ m) ∧ ∃ i, |r i| = m := by
  obtain ⟨i, _, hi⟩ := Finset.exists_max_image Finset.univ (fun i => |r i|) ⟨0, Finset.mem_univ _⟩
  exact ⟨|r i|, abs_nonneg _, fun j => hi j (Finset.mem_univ j), i, rfl⟩

theorem coe_sum' (f : Fin 256 → ℝ) : ((∑ i, f i : ℝ) : EReal) = ∑ i, (f i : EReal) :=
  map_sum (⟨⟨Real.toEReal, EReal.coe_zero⟩, EReal.coe_add⟩ : ℝ →+ EReal) f Finset.univ

/-- A normalised row is real, with entries of magnitude at most 1, whatever the row: an infinite entry makes the norm infinite and
    the normalised row 0. -/
theorem unit_real (k : Row) : ∃ K : Fin 256 → ℝ, unit k = (fun i => (K i : EReal)) ∧ ∀ i, |K i| ≤ 1 := by
  obtain ⟨ε, hε, hε0⟩ := eps_real
  by_cases hk : ∀ i, ∃ x : ℝ, k i = (x : EReal)
  · choose x hx using hk
    have hS : (∑ j, k j * k j) + eps = ((∑ j, x j * x j + ε : ℝ) : EReal) := by
      rw [EReal.coe_add, coe_sum', hε]
      simp only [hx, EReal.coe_mul]
    have h0 : 0 ≤ ∑ j, x j * x j := Finset.sum_nonneg fun j _ => mul_self_nonneg _
    refine ⟨fun i => x i * (Real.sqrt (∑ j, x j * x j + ε))⁻¹, ?_, fun i => ?_⟩
    · funext i
      unfold unit
      rw [hS, hx]
      show _ * (if (∑ j, x j * x j + ε) < 0 then (⊥ : EReal) else _) = _
      rw [if_neg (by linarith), if_neg (by linarith), EReal.coe_mul]
    · have hp : 0 < Real.sqrt (∑ j, x j * x j + ε) := Real.sqrt_pos.mpr (by linarith)
      rw [abs_mul, abs_inv, abs_of_pos hp, ← div_eq_mul_inv, div_le_one hp]
      apply Real.abs_le_sqrt
      have := Finset.single_le_sum (f := fun j => x j * x j) (fun j _ => mul_self_nonneg _) (Finset.mem_univ i)
      have : x i * x i ≤ ∑ j, x j * x j := this
      nlinarith
  · push Not at hk
    obtain ⟨i, hi⟩ := hk
    have hnn : ∀ j, 0 ≤ k j * k j := fun j => by
      rcases le_total 0 (k j) with h | h
      · exact mul_nonneg h h
      · rw [← neg_mul_neg]
        exact mul_nonneg (EReal.neg_nonneg.mpr h) (EReal.neg_nonneg.mpr h)
    have hii : k i * k i = ⊤ := by
      generalize k i = y at hi
      induction y with
      | bot => exact EReal.bot_mul_bot
      | top => exact EReal.top_mul_top
      | coe y => exact absurd rfl (hi y)
    have hS : (∑ j, k j * k j) = ⊤ := by
      refine top_le_iff.mp ?_
      rw [← hii]
      exact Finset.single_le_sum (f := fun j => k j * k j) (fun j _ => hnn j) (Finset.mem_univ i)
    refine ⟨fun _ => 0, ?_, fun _ => by norm_num⟩
    funext j
    unfold unit
    rw [hS, hε, EReal.top_add_coe]
    show k j * 0 = _
    rw [mul_zero, EReal.coe_zero]

/-! ### A row in range -/

/-- Only a real number has a real bound on its magnitude times a positive number. -/
theorem real_of_mag_mul (x : EReal) (M r : ℝ) (hM : 0 < M) (h : mag x * (M : EReal) ≤ (r : EReal)) :
    ∃ y : ℝ, x = (y : EReal) ∧ |y| * M ≤ r := by
  have ht : ¬ (⊤ : EReal) * (M : EReal) ≤ (r : EReal) := by
    rw [EReal.top_mul_coe_of_pos hM]
    exact not_le.mpr (EReal.coe_lt_top r)
  induction x with
  | bot => exact absurd (by simpa [mag] using h) ht
  | top => exact absurd (by simpa [mag] using h) ht
  | coe y => rw [mag_coe, ← EReal.coe_mul, EReal.coe_le_coe_iff] at h; exact ⟨y, rfl, h⟩

/-- A row in range: the kernel divides by the decayed scale `a`, a real number; the scaled row is real, and `a`
    times it is the new row. If the key is 0, the correction is 0 in every entry, whatever its factor. -/
theorem real_row (k c : Row) (g bt v s : EReal) (h : InRange k c g bt v s) : ∃ (u : Fin 256 → ℝ) (a : ℝ),
    divisor k c g bt v s = (a : EReal) ∧ scaled k c g bt v s = (fun i => (u i : EReal))
      ∧ newRow k c g bt v s = (fun i => ((a * u i : ℝ) : EReal)) := by
  obtain ⟨hc, hd, hs, _⟩ := h
  obtain ⟨K, hK, hK1⟩ := unit_real k
  obtain ⟨M, hM0, hM, hM'⟩ := max_exists K
  rw [inf_eq] at hs
  obtain ⟨a, ha⟩ := real_of_mag_top _ hs
  have hc' : ∀ i, ∃ x : ℝ, c i = (x : EReal) ∧ |x| ≤ 448 := fun i => real_of_mag _ _ (top448_eq ▸ hc i)
  choose C hC hC1 using hc'
  obtain rfl : c = fun i => (C i : EReal) := funext hC
  rw [hK, amax_eq K M hM hM', two40_eq, ha, mag_coe, ← EReal.coe_mul] at hd
  rcases hM0.eq_or_lt with rfl | hMp
  · have hK0 : unit k = fun _ => 0 := by
      rw [hK]
      funext i
      rw [abs_nonpos_iff.mp (hM i), EReal.coe_zero]
    refine ⟨C, a, ?_, ?_, ?_⟩
    · unfold divisor
      rw [hK, amax_eq K 0 hM hM', ha, EReal.coe_zero, zero_mul, mul_zero, mag_coe]
      exact if_pos (by exact_mod_cast abs_nonneg a)
    · funext i
      unfold scaled
      rw [hK0, zero_mul, add_zero]
    · funext i
      unfold newRow
      rw [hK0, mul_zero, add_zero, mul_left_comm, ha, ← EReal.coe_mul, mul_comm]
  · obtain ⟨d, hde, hd1⟩ := real_of_mag_mul _ _ _ hMp hd
    have hdiv : divisor k (fun i => (C i : EReal)) g bt v s = (a : EReal) := by
      unfold divisor
      rw [hde, ha, hK, amax_eq K M hM hM', tiny_eq, mag_coe, mag_coe, ← EReal.coe_mul, ← EReal.coe_mul]
      refine if_pos (EReal.coe_le_coe_iff.mpr ?_)
      rw [← mul_assoc]
      refine (mul_le_mul_of_nonneg_right hd1 (by positivity)).trans (le_of_eq ?_)
      norm_num
      ring
    -- the ratio is a real number `ρ` with `a ρ = d`
    obtain ⟨ρ, hρ, hρa⟩ : ∃ ρ : ℝ, ratio k (fun i => (C i : EReal)) g bt v s = (ρ : EReal) ∧ a * ρ = d := by
      unfold ratio
      rw [hdiv, hde]
      by_cases h0 : a = 0
      · subst h0
        refine ⟨0, by simp, ?_⟩
        rw [abs_zero, mul_zero] at hd1
        have : |d| ≤ 0 := nonpos_of_mul_nonpos_left hd1 hMp
        rw [mul_zero]
        exact (abs_nonpos_iff.mp this).symm
      · refine ⟨d * a⁻¹, ?_, by field_simp⟩
        rw [if_neg (by exact_mod_cast h0)]
        unfold Ideal.div
        rw [if_neg (by exact_mod_cast h0), ← EReal.coe_inv, ← EReal.coe_mul]
    refine ⟨fun i => C i + K i * ρ, a, hdiv, ?_, ?_⟩
    · funext i
      unfold scaled
      rw [hρ, hK, EReal.coe_add, EReal.coe_mul]
    · funext i
      unfold newRow
      rw [hde, hK, mul_left_comm, ha, ← EReal.coe_mul, ← EReal.coe_mul, ← EReal.coe_add, ← hρa]
      congr 1; ring

/-- A row in range: the kernel's scale and codes are the plain ones. -/
theorem quantised (k c : Row) (g bt v s : EReal) (h : InRange k c g bt v s) :
    kernelScale k c g bt v s = plainScale k c g bt v s ∧ kernelCode k c g bt v s = plainCode k c g bt v s := by
  obtain ⟨u, a, hdiv, hsc, hnew⟩ := real_row k c g bt v s h
  obtain ⟨w, hw, hw0⟩ := inv448_real
  obtain ⟨m, hm0, hm, hm'⟩ := max_exists u
  have hX : kernelArg k c g bt v s = ((|a| * m * w : ℝ) : EReal) := by
    unfold kernelArg
    rw [hdiv, hsc, amax_eq u m hm hm', mag_coe, hw, ← EReal.coe_mul, ← EReal.coe_mul]
  have hY : amax (newRow k c g bt v s) * inv448 = ((|a| * m * w : ℝ) : EReal) := by
    rw [hnew, amax_eq _ (|a| * m), hw, ← EReal.coe_mul]
    · intro i
      rw [abs_mul]
      exact mul_le_mul_of_nonneg_left (hm i) (abs_nonneg a)
    · obtain ⟨i, hi⟩ := hm'
      exact ⟨i, by rw [abs_mul, hi]⟩
  have hX0 : 0 ≤ |a| * m * w := mul_nonneg (mul_nonneg (abs_nonneg a) hm0) hw0
  have hX1 : |a| * m * w < 2 ^ (126 : ℤ) := by
    have h4 := h.2.2.2
    rw [hY, two126_eq] at h4
    exact EReal.coe_lt_coe_iff.mp h4
  obtain ⟨e, he, he1, he2⟩ := exponent _ hX0 hX1
  constructor
  · unfold kernelScale plainScale
    rw [hX, hY, he, he1, exp2_int]
  · funext i
    unfold kernelCode plainCode
    have hneg : (0 : EReal) - ((e : ℝ) : EReal) = (((-e : ℤ) : ℝ) : EReal) := by
      push_cast
      rw [zero_sub]
    rw [hX, hY, he, he2, hneg, exp2_int, hsc, hnew, hdiv, ← EReal.coe_mul, ← EReal.coe_mul, ← EReal.coe_mul]
    refine congrArg (fun z : ℝ => min top448 (max bot448 (z : EReal))) ?_
    ring

end Cert.Rows

end
-- ==== Proof.Mask.lean ====
module

public import proofs.«01_k».proof.Proof.Gen.On_in_range
public import proofs.«01_k».proof.Proof.RowEq
public import Idealize.ShloMosaic.Lib.Pointwise
public import Idealize.ShloMosaic.Lib.ReduceAll

/-! What a set mask says of the row. -/

@[expose] public section

set_option maxRecDepth 16384

noncomputable section

namespace Cert.Mask

open Idealize.ShloMosaic Idealize.ShloMosaic.TcCoe Cert.On_in_range Cert.Rows

theorem and_one {x y : BitVec 1} (h : IntOp.andi x y = 1#1) : x = 1#1 ∧ y = 1#1 := by
  revert x y; decide

theorem le_of_cmp {φ : FTy} {x y : Ideal φ} (h : FloatOps.cmpf .ole x y = 1#1) : (x : EReal) ≤ y := by
  have h' : Ideal.cmp .ole x y = 1#1 := h
  by_contra hn
  have h0 : Ideal.cmp .ole x y = 0#1 := by
    show BitVec.ofBool (decide ((x : EReal) ≤ y)) = 0#1
    rw [decide_eq_false hn]
    rfl
  rw [h0] at h'
  exact absurd h' (by decide)

theorem lt_of_cmp {φ : FTy} {x y : Ideal φ} (h : FloatOps.cmpf .olt x y = 1#1) : (x : EReal) < y := by
  have h' : Ideal.cmp .olt x y = 1#1 := h
  by_contra hn
  have h0 : Ideal.cmp .olt x y = 0#1 := by
    show BitVec.ofBool (decide ((x : EReal) < y)) = 0#1
    rw [decide_eq_false hn]
    rfl
  rw [h0] at h'
  exact absurd h' (by decide)

variable (q k : FVec Ideal S40x1x6x256 .bf16) (v : FVec Ideal S40x1x6x512 .bf16) (g bt : FVec Ideal S40x1x6 .f32)
  (c : FVec Ideal S40x6x512x256 .f32) (s : FVec Ideal S40x6x512 .f32) (b : Fin 40) (h : Fin 6) (j : Fin 512)

/-- The keys as floats. -/
def keys : FVec Ideal S40x6x256 .f32 :=
  extf .f32 (shapeCast S40x6x256 k Facts.shapeCasts_S40x1x6x256_S40x6x256) Facts.bitsLt_bf16_f32

/-- The normalised keys. -/
def units : FVec Ideal S40x6x256 .f32 :=
  extf .f32 (truncf .bf16 (mulf (keys k) (broadcastInDim S40x6x256 ![0, 1, 2] Facts.bcast_S40x6x1_S40x6x256_0_1_2
    (Host.rsqrt (addf (broadcastInDim S40x6x1 ![0, 1] Facts.bcast_S40x6_S40x6x1_0_1
        (Host.reduceAdd (mulf (keys k) (keys k)) (constant S_ .f32 0x00000000#32) Facts.reducesTo_S40x6x256_S40x6_d2 Facts.h_S_))
      (broadcastInDim S40x6x1 ![] Facts.bcast_S_S40x6x1 (constant S_ .f32 0x358637BD#32))))))
    Facts.bitsLt_bf16_f32) Facts.bitsLt_bf16_f32

theorem units_at (i : Fin 256) : units k (ix3 b h i) = unit (fun i => k (ix4 b 0 h i)) i := by
  pointwise [units, keys, unit]

/-- The largest magnitude in a normalised key. -/
def tops : FVec Ideal S40x6 .f32 :=
  Host.reduce FloatOps.maximumf (Host.absf (units k)) (constant S_ .f32 0xFF800000#32) Facts.reducesTo_S40x6x256_S40x6_d2 Facts.h_S_

theorem tops_at : tops k (ix2 b h) = amax (unit fun i => k (ix4 b 0 h i)) := by
  unfold tops
  pointwise
  simp only [units_at]
  exact fold_max _

/-- What the state holds under the key. -/
def stored : FVec Ideal S40x6x512 .f32 :=
  Host.reduceAdd (mulf (broadcastInDim S40x6x512x256 ![0, 1, 2, 3] Facts.bcast_S40x6x1x256_S40x6x512x256_0_1_2_3
    (broadcastInDim S40x6x1x256 ![0, 1, 3] Facts.bcast_S40x6x256_S40x6x1x256_0_1_3 (units k))) c)
    (constant S_ .f32 0x00000000#32) Facts.reducesTo_S40x6x512x256_S40x6x512_d3 Facts.h_S_

theorem stored_at : stored k c (ix3 b h j) = dot (unit fun i => k (ix4 b 0 h i)) (fun i => c (ix4 b h j i)) := by
  unfold stored
  pointwise
  simp only [units_at]
  rfl

/-- The decay. -/
def decay : FVec Ideal S40x6x1 .f32 :=
  broadcastInDim S40x6x1 ![0, 1] Facts.bcast_S40x6_S40x6x1_0_1 (Host.exp (shapeCast S40x6 g Facts.shapeCasts_S40x1x6_S40x6))

/-- The decayed scale's magnitude. -/
def decayed : FVec Ideal S40x6x512 .f32 :=
  Host.absf (mulf (broadcastInDim S40x6x512 ![0, 1, 2] Facts.bcast_S40x6x1_S40x6x512_0_1_2 (decay g)) s)

theorem decayed_at : decayed g s (ix3 b h j) = mag (Ideal.exp (g (ix3 b 0 h)) * s (ix3 b h j)) := by
  pointwise [decayed, decay]
  rfl

/-- The correction's factor. -/
def deltas : FVec Ideal S40x6x512 .f32 :=
  mulf (broadcastInDim S40x6x512 ![0, 1, 2] Facts.bcast_S40x6x1_S40x6x512_0_1_2
      (broadcastInDim S40x6x1 ![0, 1] Facts.bcast_S40x6_S40x6x1_0_1 (shapeCast S40x6 bt Facts.shapeCasts_S40x1x6_S40x6)))
    (subf (extf .f32 (shapeCast S40x6x512 v Facts.shapeCasts_S40x1x6x512_S40x6x512) Facts.bitsLt_bf16_f32)
      (mulf (broadcastInDim S40x6x512 ![0, 1, 2] Facts.bcast_S40x6x1_S40x6x512_0_1_2 (decay g)) (mulf (stored k c) s)))

theorem deltas_at : deltas k v g bt c s (ix3 b h j)
    = delta (fun i => k (ix4 b 0 h i)) (fun i => c (ix4 b h j i)) (g (ix3 b 0 h)) (bt (ix3 b 0 h)) (v (ix4 b 0 h j))
      (s (ix3 b h j)) := by
  unfold delta
  rw [← stored_at]
  unfold deltas
  generalize stored k c = D
  pointwise [decay]

/-- The largest entry of the correction. -/
def corrections : FVec Ideal S40x6x512 .f32 :=
  mulf (Host.absf (deltas k v g bt c s)) (broadcastInDim S40x6x512 ![0, 1, 2] Facts.bcast_S40x6x1_S40x6x512_0_1_2
    (broadcastInDim S40x6x1 ![0, 1] Facts.bcast_S40x6_S40x6x1_0_1 (tops k)))

theorem corrections_at : corrections k v g bt c s (ix3 b h j)
    = mag (delta (fun i => k (ix4 b 0 h i)) (fun i => c (ix4 b h j i)) (g (ix3 b 0 h)) (bt (ix3 b 0 h)) (v (ix4 b 0 h j))
      (s (ix3 b h j))) * amax (unit fun i => k (ix4 b 0 h i)) := by
  rw [← deltas_at, ← tops_at]
  unfold corrections
  generalize deltas k v g bt c s = D
  generalize tops k = T
  pointwise
  rfl

/-- The state after the step. -/
def news : FVec Ideal S40x6x512x256 .f32 :=
  addf (mulf (broadcastInDim S40x6x512x256 ![0, 1, 2, 3] Facts.bcast_S40x6x1x1_S40x6x512x256_0_1_2_3
      (broadcastInDim S40x6x1x1 ![0, 1, 2] Facts.bcast_S40x6x1_S40x6x1x1_0_1_2 (decay g)))
      (mulf c (broadcastInDim S40x6x512x256 ![0, 1, 2, 3] Facts.bcast_S40x6x512x1_S40x6x512x256_0_1_2_3
        (broadcastInDim S40x6x512x1 ![0, 1, 2] Facts.bcast_S40x6x512_S40x6x512x1_0_1_2 s))))
    (mulf (broadcastInDim S40x6x512x256 ![0, 1, 2, 3] Facts.bcast_S40x6x512x1_S40x6x512x256_0_1_2_3
        (broadcastInDim S40x6x512x1 ![0, 1, 2] Facts.bcast_S40x6x512_S40x6x512x1_0_1_2 (deltas k v g bt c s)))
      (broadcastInDim S40x6x512x256 ![0, 1, 2, 3] Facts.bcast_S40x6x1x256_S40x6x512x256_0_1_2_3
        (broadcastInDim S40x6x1x256 ![0, 1, 3] Facts.bcast_S40x6x256_S40x6x1x256_0_1_3 (units k))))

theorem news_at (i : Fin 256) : news k v g bt c s (ix4 b h j i)
    = newRow (fun i => k (ix4 b 0 h i)) (fun i => c (ix4 b h j i)) (g (ix3 b 0 h)) (bt (ix3 b 0 h)) (v (ix4 b 0 h j))
      (s (ix3 b h j)) i := by
  unfold newRow
  rw [← deltas_at, ← units_at]
  unfold news
  generalize deltas k v g bt c s = D
  generalize units k = U
  pointwise [decay]

/-- The largest magnitude in each row of a state. -/
def rowTops (N : FVec Ideal S40x6x512x256 .f32) : FVec Ideal S40x6x512 .f32 :=
  Host.reduce FloatOps.maximumf (Host.absf N) (constant S_ .f32 0xFF800000#32) Facts.reducesTo_S40x6x512x256_S40x6x512_d3 Facts.h_S_

theorem rowTops_at (N : FVec Ideal S40x6x512x256 .f32) : rowTops N (ix3 b h j) = amax (fun i => N (ix4 b h j i)) := by
  unfold rowTops
  pointwise
  exact fold_max _

/-- That magnitude over 448. -/
def peaks (T : FVec Ideal S40x6x512 .f32) : FVec Ideal S40x6x512 .f32 :=
  mulf T (broadcastInDim S40x6x512 ![] Facts.bcast_S_S40x6x512 (constant S_ .f32 0x3B124925#32))

theorem peaks_of (T : FVec Ideal S40x6x512 .f32) : peaks T (ix3 b h j) = T (ix3 b h j) * inv448 := rfl

theorem peaks_at : peaks (rowTops (news k v g bt c s)) (ix3 b h j)
    = amax (newRow (fun i => k (ix4 b 0 h i)) (fun i => c (ix4 b h j i)) (g (ix3 b 0 h)) (bt (ix3 b 0 h)) (v (ix4 b 0 h j))
      (s (ix3 b h j))) * inv448 := by
  rw [peaks_of, rowTops_at]
  exact congrArg (fun x => amax x * inv448) (funext fun i => news_at k v g bt c s b h j i)

/-- A conjunction of four masks is set where all four are. -/
theorem and_four (A B C D : IVec S40x6x512 1) (y : S40x6x512.Idx) (e : andi (andi (andi A B) C) D y = 1#1) :
    A y = 1#1 ∧ B y = 1#1 ∧ C y = 1#1 ∧ D y = 1#1 := by
  obtain ⟨e, e4⟩ := and_one e
  obtain ⟨e, e3⟩ := and_one e
  obtain ⟨e1, e2⟩ := and_one e
  exact ⟨e1, e2, e3, e4⟩

/-- Where a comparison with a constant is set the number is below it. -/
theorem lt_word (N : FVec Ideal S40x6x512 .f32) (w : BitVec 32) (y : S40x6x512.Idx)
    (e : cmpf .olt N (broadcastInDim S40x6x512 ![] Facts.bcast_S_S40x6x512 (constant S_ .f32 w)) y = 1#1) :
    (N y : EReal) < Ideal.ofBits .f32 w := lt_of_cmp e

/-- A row whose codes all compare as at most 448 in magnitude has such codes. -/
theorem code_le (e : Host.reduce IntOp.andi (cmpf .ole (Host.absf c)
      (broadcastInDim S40x6x512x256 ![] Facts.bcast_S_S40x6x512x256 (constant (F := Ideal) S_ .f32 0x43E00000#32)))
      (constantI S_ 1 1#1) Facts.reducesTo_S40x6x512x256_S40x6x512_d3 Facts.h_S_ (ix3 b h j) = 1#1) (i : Fin 256) :
    mag (c (ix4 b h j i)) ≤ top448 :=
  le_of_cmp (φ := .f32) (Host.reduce_andi_eq_one _ _ _ _ _ e (ix4 b h j i) (by
    funext a
    fin_cases a <;> rfl))

/-- The mask of the rows in range. -/
def rowMask : IVec S40x6x512 1 :=
  andi (andi (andi (Host.reduce IntOp.andi (cmpf .ole (Host.absf c)
      (broadcastInDim S40x6x512x256 ![] Facts.bcast_S_S40x6x512x256 (constant (F := Ideal) S_ .f32 0x43E00000#32)))
      (constantI S_ 1 1#1) Facts.reducesTo_S40x6x512x256_S40x6x512_d3 Facts.h_S_)
    (cmpf .ole (corrections k v g bt c s) (mulf (broadcastInDim S40x6x512 ![] Facts.bcast_S_S40x6x512
      (constant S_ .f32 0x53800000#32)) (decayed g s))))
    (cmpf .olt (decayed g s) (broadcastInDim S40x6x512 ![] Facts.bcast_S_S40x6x512 (constant S_ .f32 0x7F800000#32))))
    (cmpf .olt (peaks (rowTops (news k v g bt c s))) (broadcastInDim S40x6x512 ![] Facts.bcast_S_S40x6x512 (constant S_ .f32 0x7E800000#32)))

/-- Where the mask of the rows is set the row is in range. -/
theorem in_range (e : rowMask k v g bt c s (ix3 b h j) = 1#1) :
    InRange (fun i => k (ix4 b 0 h i)) (fun i => c (ix4 b h j i)) (g (ix3 b 0 h)) (bt (ix3 b 0 h)) (v (ix4 b 0 h j))
      (s (ix3 b h j)) := by
  obtain ⟨e1, e2, e3, e4⟩ := and_four _ _ _ _ _ e
  refine ⟨code_le c b h j e1, ?_, ?_, ?_⟩
  · rw [← corrections_at, ← decayed_at]
    exact le_of_cmp e2
  · rw [← decayed_at]
    exact lt_word _ _ _ e3
  · exact lt_of_eq_of_lt (peaks_at k v g bt c s b h j).symm (lt_word _ _ _ e4)

/-- The third mask is that of the rows. -/
theorem third : (fn (F := Ideal) q k v g bt c s).2.2 = rowMask k v g bt c s := by
  dsimp only [fn, fn_part1, fn_part2, fn_part3]
  rfl

/-- The second is the same along a row. -/
theorem second (i : Fin 256) : (fn (F := Ideal) q k v g bt c s).2.1 (ix4 b h j i) = rowMask k v g bt c s (ix3 b h j) := by
  rw [← third q]
  dsimp only [fn, fn_part1, fn_part2, fn_part3]
  generalize andi (andi (andi _ _) _) _ = M
  pointwise

end Cert.Mask

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Frame
public import proofs.«01_k».proof.Proof.Gen.On_in_range
public import proofs.«01_k».proof.Proof.KernelArray
public import proofs.«01_k».proof.Proof.RefArray
public import proofs.«01_k».proof.Proof.Mask
public import Idealize.ShloMosaic.Adequacy
public import Idealize.ShloMosaic.Init

/-! The claims: the kernel's program and its reading over the extended reals end and leave their arguments alone, so does
the reference, and the kernel's results are the reference's where the mask is set. -/

@[expose] public section

set_option maxRecDepth 16384

noncomputable section

namespace Cert.Proof

open Idealize.ShloMosaic Idealize.ShloMosaic.TcCoe Idealize.SL.Sem Cert.Kernel Cert.Rows

/-- The kernel's program ends from every state, with its arguments unchanged and its semaphores at zero. -/
theorem frame_kernel : Cert.quiescent_Kernel := fun m ρ _ => Cert.Kernel.Gen.frame m ρ

/-- So does its reading over the extended reals. -/
theorem frame_ideal : Cert.quiescent_KernelIdeal := fun m ρ _ => Cert.KernelIdeal.Gen.frame m ρ

/-- So does the reference. -/
theorem frame_reference : Cert.quiescent_ReferenceIdeal := fun m ρ _ => Cert.ReferenceIdeal.Gen.frame m ρ

/-- Where the second mask is set, the kernel's codes are the plain ones. -/
theorem codes_eq (a : Args) (i : (⟨4, ![40, 6, 512, 256]⟩ : Shape).Idx)
    (h : (Cert.On_in_range.fn (F := Ideal) a.q a.k a.v a.g a.bt a.c a.s).2.1 i = 1#1) :
    a.entries kernelCode i = a.entries plainCode i := by
  have hi : ix4 (n0 := 40) (n1 := 6) (n2 := 512) (n3 := 256) (i 0) (i 1) (i 2) (i 3) = i := by
    funext x
    fin_cases x <;> rfl
  rw [← hi] at h
  have h' := (Cert.Mask.second a.q a.k a.v a.g a.bt a.c a.s (i 0) (i 1) (i 2) (i 3)).symm.trans h
  exact congrFun (quantised _ _ _ _ _ _ (Cert.Mask.in_range a.k a.v a.g a.bt a.c a.s (i 0) (i 1) (i 2) h')).2 (i 3)

/-- Where the third mask is set, the kernel's scales are the plain ones. -/
theorem scales_eq (a : Args) (i : (⟨3, ![40, 6, 512]⟩ : Shape).Idx)
    (h : (Cert.On_in_range.fn (F := Ideal) a.q a.k a.v a.g a.bt a.c a.s).2.2 i = 1#1) :
    a.rows kernelScale i = a.rows plainScale i := by
  have hi : ix3 (n0 := 40) (n1 := 6) (n2 := 512) (i 0) (i 1) (i 2) = i := by
    funext x
    fin_cases x <;> rfl
  rw [← hi] at h
  have h' := (congrFun (Cert.Mask.third a.q a.k a.v a.g a.bt a.c a.s) _).symm.trans h
  exact (quantised _ _ _ _ _ _ (Cert.Mask.in_range a.k a.v a.g a.bt a.c a.s (i 0) (i 1) (i 2) h')).1

/-- From arguments that agree, kernel and reference return the same first result everywhere, and the same codes and scales in
    every row in range. -/
theorem algebraic : Cert.algebraic_KernelIdeal_ReferenceIdeal_on_in_range := by
  intro m ρ m' ρ' _ hagree
  have e (c : Dev Cert.KernelIdeal.nD) : Cert.ReferenceArray.args m' c = Cert.KernelArray.args m c := by
    obtain ⟨h0, h1, h2, h3, h4, h5, h6⟩ := hagree c
    unfold Cert.ReferenceArray.args Cert.KernelArray.args
    rw [h0, h1, h2, h3, h4, h5, h6]
  refine ⟨fun c => (Cert.KernelArray.args m c).outputs, fun c => (Cert.KernelArray.args m c).entries plainCode,
    fun c => (Cert.KernelArray.args m c).rows plainScale, ?_, ?_⟩
  · exact (θ_run Cert.KernelIdeal.defs _ _).mono
      (fun _ h c => ⟨fun i _ => congrFun ((h c).1.trans (Cert.KernelArray.final_o m c)) i,
        fun i hi => (congrFun ((h c).2.1.trans (Cert.KernelArray.final_codes m c)) i).trans
          (codes_eq (Cert.KernelArray.args m c) i hi),
        fun i hi => (congrFun ((h c).2.2.1.trans (Cert.KernelArray.final_scales m c)) i).trans
          (scales_eq (Cert.KernelArray.args m c) i hi),
        (h c).2.2.2⟩)
      (Cert.KernelIdeal.Value.run_blocks m ρ)
  · exact (θ_run Cert.ReferenceIdeal.defs _ _).mono
      (fun _ h c => ⟨fun i _ => congrFun ((h c).1.trans (congrArg Args.outputs (e c))) i,
        fun i _ => congrFun ((h c).2.1.trans (congrArg (Args.entries · plainCode) (e c))) i,
        fun i _ => congrFun ((h c).2.2.1.trans (congrArg (Args.rows · plainScale) (e c))) i,
        (h c).2.2.2⟩)
      (Cert.ReferenceArray.run m' ρ')

theorem claim : Cert.Claim := ⟨Cert.Kernel.Gen.facts, Cert.KernelIdeal.Gen.facts, Cert.ReferenceIdeal.Gen.facts,
  Cert.On_in_range.Gen.facts, frame_kernel, frame_ideal, frame_reference, trivial, algebraic⟩

end Cert.Proof

end
